-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S512x1024 : Shape := ⟨2, ![512, 1024]⟩
abbrev S4x256x1 : Shape := ⟨3, ![4, 256, 1]⟩
abbrev S4 : Shape := ⟨1, ![4]⟩
abbrev S1x1x4 : Shape := ⟨3, ![1, 1, 4]⟩
abbrev S_ : Shape := ⟨0, ![]⟩
abbrev S4x256x4 : Shape := ⟨3, ![4, 256, 4]⟩
abbrev S1024x16 : Shape := ⟨2, ![1024, 16]⟩
abbrev S1024 : Shape := ⟨1, ![1024]⟩
abbrev S4x4 : Shape := ⟨2, ![4, 4]⟩

class Facts : Prop where
  shapeCasts_S1024x1_S4x256x1 : S1024x1.ShapeCasts S4x256x1
  shapeCasts_S4_S1x1x4 : S4.ShapeCasts S1x1x4
  bcast_S_S1x1x4 : S_.BroadcastsInDim S1x1x4 (![] : Fin 0 → Fin S1x1x4.rank)
  bcast_S4x256x1_S4x256x4_0_1_2 : S4x256x1.BroadcastsInDim S4x256x4 (![0, 1, 2] : Fin 3 → Fin S4x256x4.rank)
  bcast_S1x1x4_S4x256x4_0_1_2 : S1x1x4.BroadcastsInDim S4x256x4 (![0, 1, 2] : Fin 3 → Fin S4x256x4.rank)
  natLt_1_32 : 1 < 32
  reducesTo_S1024x16_S1024_d1 : S1024x16.ReducesTo [1] S1024
  h_S_ : 0 < S_.numel
  bcast_S_S1024x1 : S_.BroadcastsInDim S1024x1 (![] : Fin 0 → Fin S1024x1.rank)
  reducesTo_S1024x1_S_d0_1 : S1024x1.ReducesTo [0, 1] S_
  reducesTo_S4x256x4_S4x4_d1 : S4x256x4.ReducesTo [1] S4x4
  bcast_S_S4x4 : S_.BroadcastsInDim S4x4 (![] : Fin 0 → Fin S4x4.rank)
  reducesTo_S4x4_S_d0_1 : S4x4.ReducesTo [0, 1] S_
  bcast_S_S1024 : S_.BroadcastsInDim S1024 (![] : Fin 0 → Fin S1024.rank)
  reducesTo_S1024_S_d0 : S1024.ReducesTo [0] S_
  dot_S1024x512_S512x16_S1024x16_1_0_0_1_n_n_wf : DotDims.WF S1024x512 S512x16 S1024x16 [1] [0] [0] [1] [] []

variable [Facts]

def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def fn_part1 {F : FTy → Type} [FloatOps F] (main_arg2 : IVec S1024x1 32) (main_v14 : IVec S4x256x4 32) (main_v16 : FVec F S1024 .f32) (main_v18 : IVec S1024x1 1) (main_c_2 : IVec S_ 32) : IVec S_ 1 :=
  let main_v19 : IVec S1024x1 32 := broadcastInDim S1024x1 ![] bcast_S_S1024x1 main_c_2
  let main_v20 : IVec S1024x1 1 := cmpi .slt main_arg2 main_v19
  let main_v21 : IVec S1024x1 1 := andi main_v18 main_v20
  let main_c_3 : IVec S_ 1 := constantI S_ 1 1#1
  let main_v22 : IVec S_ 1 := (fun x v => Host.reduce IntOp.andi x v reducesTo_S1024x1_S_d0_1 h_S_) main_v21 main_c_3
  let main_c_4 : IVec S_ 32 := constantI S_ 32 0#32
  let main_v23 : IVec S4x4 32 := (fun x v => Host.reduce IntOp.addi x v reducesTo_S4x256x4_S4x4_d1 h_S_) main_v14 main_c_4
  let main_c_5 : IVec S_ 32 := constantI S_ 32 96#32
  let main_v24 : IVec S4x4 32 := broadcastInDim S4x4 ![] bcast_S_S4x4 main_c_5
  let main_v25 : IVec S4x4 1 := cmpi .sle main_v23 main_v24
  let main_c_6 : IVec S_ 1 := constantI S_ 1 1#1
  let main_v26 : IVec S_ 1 := (fun x v => Host.reduce IntOp.andi x v reducesTo_S4x4_S_d0_1 h_S_) main_v25 main_c_6
  let main_v27 : IVec S_ 1 := andi main_v22 main_v26
  let main_v28 : FVec F S1024 .f32 := Host.absf main_v16
  let main_cst_7 : FVec F S_ .f32 := constant S_ .f32 0x7F800000#32
  let main_v29 : FVec F S1024 .f32 := broadcastInDim S1024 ![] bcast_S_S1024 main_cst_7
  let main_v30 : IVec S1024 1 := cmpf .olt main_v28 main_v29
  let main_c_8 : IVec S_ 1 := constantI S_ 1 1#1
  let main_v31 : IVec S_ 1 := (fun x v => Host.reduce IntOp.andi x v reducesTo_S1024_S_d0 h_S_) main_v30 main_c_8
  let main_v32 : IVec S_ 1 := andi main_v27 main_v31
  main_v32

def fn {F : FTy → Type} [FloatOps F] (main_arg0 : FVec F S1024x512 .f32) (main_arg1 : FVec F S512x16 .f32) (main_arg2 : IVec S1024x1 32) (main_arg3 : FVec F S4x512x1024 .f32) (main_arg4 : FVec F S512x1024 .f32) : IVec S_ 1 :=
  let main_v0 : IVec S4x256x1 32 := shapeCast S4x256x1 main_arg2 shapeCasts_S1024x1_S4x256x1
  let main_v1 : IVec S4 32 := iotaInDim S4 32 0
  let main_v2 : IVec S1x1x4 32 := shapeCast S1x1x4 main_v1 shapeCasts_S4_S1x1x4
  let main_c : IVec S_ 32 := constantI S_ 32 4#32
  let main_v3 : IVec S1x1x4 32 := broadcastInDim S1x1x4 ![] bcast_S_S1x1x4 main_c
  let main_v4 : IVec S1x1x4 32 := muli main_v3 main_v2
  let main_v5 : IVec S4x256x4 32 := broadcastInDim S4x256x4 ![0, 1, 2] bcast_S4x256x1_S4x256x4_0_1_2 main_v0
  let main_v6 : IVec S4x256x4 32 := broadcastInDim S4x256x4 ![0, 1, 2] bcast_S1x1x4_S4x256x4_0_1_2 main_v4
  let main_v7 : IVec S4x256x4 1 := cmpi .sge main_v5 main_v6
  let main_c_0 : IVec S_ 32 := constantI S_ 32 4#32
  let main_v8 : IVec S1x1x4 32 := broadcastInDim S1x1x4 ![] bcast_S_S1x1x4 main_c_0
  let main_v9 : IVec S1x1x4 32 := addi main_v4 main_v8
  let main_v10 : IVec S4x256x4 32 := broadcastInDim S4x256x4 ![0, 1, 2] bcast_S4x256x1_S4x256x4_0_1_2 main_v0
  let main_v11 : IVec S4x256x4 32 := broadcastInDim S4x256x4 ![0, 1, 2] bcast_S1x1x4_S4x256x4_0_1_2 main_v9
  let main_v12 : IVec S4x256x4 1 := cmpi .slt main_v10 main_v11
  let main_v13 : IVec S4x256x4 1 := andi main_v7 main_v12
  let main_v14 : IVec S4x256x4 32 := (extui 32 · natLt_1_32) main_v13
  let main_v15 : FVec F S1024x16 .f32 := (fun l r => Host.dotGeneral dot_S1024x512_S512x16_S1024x16_1_0_0_1_n_n none l r) main_arg0 main_arg1
  let main_cst : FVec F S_ .f32 := constant S_ .f32 0xFF800000#32
  let main_v16 : FVec F S1024 .f32 := (fun x v => Host.reduce FloatOps.maximumf x v reducesTo_S1024x16_S1024_d1 h_S_) main_v15 main_cst
  let main_c_1 : IVec S_ 32 := constantI S_ 32 0#32
  let main_v17 : IVec S1024x1 32 := broadcastInDim S1024x1 ![] bcast_S_S1024x1 main_c_1
  let main_v18 : IVec S1024x1 1 := cmpi .sge main_arg2 main_v17
  let main_c_2 : IVec S_ 32 := constantI S_ 32 16#32
  fn_part1 (F := F) main_arg2 main_v14 main_v16 main_v18 main_c_2
-- ==== Pre_routed_ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S512x1024 : Shape := ⟨2, ![512, 1024]⟩
abbrev S4x256x1 : Shape := ⟨3, ![4, 256, 1]⟩
abbrev S4 : Shape := ⟨1, ![4]⟩
abbrev S1x1x4 : Shape := ⟨3, ![1, 1, 4]⟩
abbrev S_ : Shape := ⟨0, ![]⟩
abbrev S4x256x4 : Shape := ⟨3, ![4, 256, 4]⟩
abbrev S1024x16 : Shape := ⟨2, ![1024, 16]⟩
abbrev S1024 : Shape := ⟨1, ![1024]⟩
abbrev S4x4 : Shape := ⟨2, ![4, 4]⟩

class Facts : Prop where
  shapeCasts_S1024x1_S4x256x1 : S1024x1.ShapeCasts S4x256x1
  shapeCasts_S4_S1x1x4 : S4.ShapeCasts S1x1x4
  bcast_S_S1x1x4 : S_.BroadcastsInDim S1x1x4 (![] : Fin 0 → Fin S1x1x4.rank)
  bcast_S4x256x1_S4x256x4_0_1_2 : S4x256x1.BroadcastsInDim S4x256x4 (![0, 1, 2] : Fin 3 → Fin S4x256x4.rank)
  bcast_S1x1x4_S4x256x4_0_1_2 : S1x1x4.BroadcastsInDim S4x256x4 (![0, 1, 2] : Fin 3 → Fin S4x256x4.rank)
  natLt_1_32 : 1 < 32
  reducesTo_S1024x16_S1024_d1 : S1024x16.ReducesTo [1] S1024
  h_S_ : 0 < S_.numel
  bcast_S_S1024x1 : S_.BroadcastsInDim S1024x1 (![] : Fin 0 → Fin S1024x1.rank)
  reducesTo_S1024x1_S_d0_1 : S1024x1.ReducesTo [0, 1] S_
  reducesTo_S4x256x4_S4x4_d1 : S4x256x4.ReducesTo [1] S4x4
  bcast_S_S4x4 : S_.BroadcastsInDim S4x4 (![] : Fin 0 → Fin S4x4.rank)
  reducesTo_S4x4_S_d0_1 : S4x4.ReducesTo [0, 1] S_
  bcast_S_S1024 : S_.BroadcastsInDim S1024 (![] : Fin 0 → Fin S1024.rank)
  reducesTo_S1024_S_d0 : S1024.ReducesTo [0] S_
  dot_S1024x512_S512x16_S1024x16_1_0_0_1_n_n_wf : DotDims.WF S1024x512 S512x16 S1024x16 [1] [0] [0] [1] [] []

variable [Facts]

def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def fn_part1 {F : FTy → Type} [FloatOps F] (main_arg2 : IVec S1024x1 32) (main_v14 : IVec S4x256x4 32) (main_v16 : FVec F S1024 .f32) (main_v18 : IVec S1024x1 1) (main_c_2 : IVec S_ 32) : IVec S_ 1 :=
  let main_v19 : IVec S1024x1 32 := broadcastInDim S1024x1 ![] bcast_S_S1024x1 main_c_2
  let main_v20 : IVec S1024x1 1 := cmpi .slt main_arg2 main_v19
  let main_v21 : IVec S1024x1 1 := andi main_v18 main_v20
  let main_c_3 : IVec S_ 1 := constantI S_ 1 1#1
  let main_v22 : IVec S_ 1 := (fun x v => Host.reduce IntOp.andi x v reducesTo_S1024x1_S_d0_1 h_S_) main_v21 main_c_3
  let main_c_4 : IVec S_ 32 := constantI S_ 32 0#32
  let main_v23 : IVec S4x4 32 := (fun x v => Host.reduce IntOp.addi x v reducesTo_S4x256x4_S4x4_d1 h_S_) main_v14 main_c_4
  let main_c_5 : IVec S_ 32 := constantI S_ 32 96#32
  let main_v24 : IVec S4x4 32 := broadcastInDim S4x4 ![] bcast_S_S4x4 main_c_5
  let main_v25 : IVec S4x4 1 := cmpi .sle main_v23 main_v24
  let main_c_6 : IVec S_ 1 := constantI S_ 1 1#1
  let main_v26 : IVec S_ 1 := (fun x v => Host.reduce IntOp.andi x v reducesTo_S4x4_S_d0_1 h_S_) main_v25 main_c_6
  let main_v27 : IVec S_ 1 := andi main_v22 main_v26
  let main_v28 : FVec F S1024 .f32 := Host.absf main_v16
  let main_cst_7 : FVec F S_ .f32 := constant S_ .f32 0x7F800000#32
  let main_v29 : FVec F S1024 .f32 := broadcastInDim S1024 ![] bcast_S_S1024 main_cst_7
  let main_v30 : IVec S1024 1 := cmpf .olt main_v28 main_v29
  let main_c_8 : IVec S_ 1 := constantI S_ 1 1#1
  let main_v31 : IVec S_ 1 := (fun x v => Host.reduce IntOp.andi x v reducesTo_S1024_S_d0 h_S_) main_v30 main_c_8
  let main_v32 : IVec S_ 1 := andi main_v27 main_v31
  main_v32

def fn {F : FTy → Type} [FloatOps F] (main_arg0 : FVec F S1024x512 .f32) (main_arg1 : FVec F S512x16 .f32) (main_arg2 : IVec S1024x1 32) (main_arg3 : FVec F S16x512x1024 .f32) (main_arg4 : FVec F S512x1024 .f32) : IVec S_ 1 :=
  let main_v0 : IVec S4x256x1 32 := shapeCast S4x256x1 main_arg2 shapeCasts_S1024x1_S4x256x1
  let main_v1 : IVec S4 32 := iotaInDim S4 32 0
  let main_v2 : IVec S1x1x4 32 := shapeCast S1x1x4 main_v1 shapeCasts_S4_S1x1x4
  let main_c : IVec S_ 32 := constantI S_ 32 4#32
  let main_v3 : IVec S1x1x4 32 := broadcastInDim S1x1x4 ![] bcast_S_S1x1x4 main_c
  let main_v4 : IVec S1x1x4 32 := muli main_v3 main_v2
  let main_v5 : IVec S4x256x4 32 := broadcastInDim S4x256x4 ![0, 1, 2] bcast_S4x256x1_S4x256x4_0_1_2 main_v0
  let main_v6 : IVec S4x256x4 32 := broadcastInDim S4x256x4 ![0, 1, 2] bcast_S1x1x4_S4x256x4_0_1_2 main_v4
  let main_v7 : IVec S4x256x4 1 := cmpi .sge main_v5 main_v6
  let main_c_0 : IVec S_ 32 := constantI S_ 32 4#32
  let main_v8 : IVec S1x1x4 32 := broadcastInDim S1x1x4 ![] bcast_S_S1x1x4 main_c_0
  let main_v9 : IVec S1x1x4 32 := addi main_v4 main_v8
  let main_v10 : IVec S4x256x4 32 := broadcastInDim S4x256x4 ![0, 1, 2] bcast_S4x256x1_S4x256x4_0_1_2 main_v0
  let main_v11 : IVec S4x256x4 32 := broadcastInDim S4x256x4 ![0, 1, 2] bcast_S1x1x4_S4x256x4_0_1_2 main_v9
  let main_v12 : IVec S4x256x4 1 := cmpi .slt main_v10 main_v11
  let main_v13 : IVec S4x256x4 1 := andi main_v7 main_v12
  let main_v14 : IVec S4x256x4 32 := (extui 32 · natLt_1_32) main_v13
  let main_v15 : FVec F S1024x16 .f32 := (fun l r => Host.dotGeneral dot_S1024x512_S512x16_S1024x16_1_0_0_1_n_n none l r) main_arg0 main_arg1
  let main_cst : FVec F S_ .f32 := constant S_ .f32 0xFF800000#32
  let main_v16 : FVec F S1024 .f32 := (fun x v => Host.reduce FloatOps.maximumf x v reducesTo_S1024x16_S1024_d1 h_S_) main_v15 main_cst
  let main_c_1 : IVec S_ 32 := constantI S_ 32 0#32
  let main_v17 : IVec S1024x1 32 := broadcastInDim S1024x1 ![] bcast_S_S1024x1 main_c_1
  let main_v18 : IVec S1024x1 1 := cmpi .sge main_arg2 main_v17
  let main_c_2 : IVec S_ 32 := constantI S_ 32 16#32
  fn_part1 (F := F) main_arg2 main_v14 main_v16 main_v18 main_c_2
-- ==== Kernel.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S512x1024 : Shape := ⟨2, ![512, 1024]⟩
abbrev S256x1024 : Shape := ⟨2, ![256, 1024]⟩
abbrev S3x96x1024 : Shape := ⟨3, ![3, 96, 1024]⟩
abbrev S3 : Shape := ⟨1, ![3]⟩
abbrev S_ : Shape := ⟨0, ![]⟩
abbrev S2048x1024 : Shape := ⟨2, ![2048, 1024]⟩
abbrev S256x256 : Shape := ⟨2, ![256, 256]⟩
abbrev S256x1 : Shape := ⟨2, ![256, 1]⟩
abbrev S1x256 : Shape := ⟨2, ![1, 256]⟩
abbrev S96x256 : Shape := ⟨2, ![96, 256]⟩
abbrev S256x512 : Shape := ⟨2, ![256, 512]⟩
abbrev S96x512 : Shape := ⟨2, ![96, 512]⟩
abbrev S256x16 : Shape := ⟨2, ![256, 16]⟩
abbrev S256 : Shape := ⟨1, ![256]⟩
abbrev S256x4 : Shape := ⟨2, ![256, 4]⟩
abbrev S96x4 : Shape := ⟨2, ![96, 4]⟩
abbrev S96x1 : Shape := ⟨2, ![96, 1]⟩
abbrev S96x2048 : Shape := ⟨2, ![96, 2048]⟩
abbrev S96x1024 : Shape := ⟨2, ![96, 1024]⟩
abbrev S1x96x1024 : Shape := ⟨3, ![1, 96, 1024]⟩
abbrev S1 : Shape := ⟨1, ![1]⟩
abbrev S256x96 : Shape := ⟨2, ![256, 96]⟩

abbrev nBuf : Space → Nat
  | .hbm => 6
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x1, .i32⟩
  | .hbm, ⟨3, _⟩ => ⟨S4x512x1024, .f32⟩
  | .hbm, ⟨4, _⟩ => ⟨S512x1024, .f32⟩
  | .hbm, ⟨5, _⟩ => ⟨S256x1024, .f32⟩
  | .local _ .vmem, ⟨0, _⟩ => ⟨S1024x512, .f32⟩
  | .local _ .vmem, ⟨1, _⟩ => ⟨S512x16, .f32⟩
  | .local _ .vmem, ⟨2, _⟩ => ⟨S1024x1, .i32⟩
  | .local _ .vmem, ⟨3, _⟩ => ⟨S4x512x1024, .f32⟩
  | .local _ .vmem, ⟨4, _⟩ => ⟨S512x1024, .f32⟩
  | .local _ .vmem, ⟨5, _⟩ => ⟨S256x1024, .f32⟩
  | .local _ .vmem, ⟨6, _⟩ => ⟨S3x96x1024, .bf16⟩
  | .local _ .vmem, ⟨7, _⟩ => ⟨S3x96x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : BitVec 32 := Scalar.addi v2 c2_i32_15
  let c4_i32_16 : BitVec 32 := 4#32
  let v30 : BitVec 32 := Scalar.remsi v29 c4_i32_16
  let c256_i32 : BitVec 32 := 256#32
  let v31 : BitVec 32 := Scalar.muli v30 c256_i32
  let v32 : Index := Scalar.indexCast v31
  let c0_17 : Index := 0#32
  ![v32.toNat, 0]
def k0_off2 (d0 : Dev nD) (c2_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : BitVec 32 := Scalar.addi v2 c2_i32_15
  let c4_i32_16 : BitVec 32 := 4#32
  let v30 : BitVec 32 := Scalar.remsi v29 c4_i32_16
  let c256_i32_23 : BitVec 32 := 256#32
  let v57 : BitVec 32 := Scalar.muli v30 c256_i32_23
  let v58 : Index := Scalar.indexCast v57
  let c0_24 : Index := 0#32
  ![v58.toNat, 0]
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_15 : BitVec 32 := 2#32
  let v29 : BitVec 32 := Scalar.addi v2 c2_i32_15
  let c4_i32_16 : BitVec 32 := 4#32
  let v30 : BitVec 32 := Scalar.remsi v29 c4_i32_16
  let c1_i32_48 : BitVec 32 := 1#32
  let v118 : BitVec 32 := Scalar.muli v30 c1_i32_48
  let v119 : BitVec 32 := Scalar.addi c0_i32_49 v118
  v119.toNat
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v128 : BitVec 32 := Scalar.addi v2 c1_i32_54
  let c4_i32_55 : BitVec 32 := 4#32
  let v129 : BitVec 32 := Scalar.remsi v128 c4_i32_55
  let c1_i32_88 : BitVec 32 := 1#32
  let v217 : BitVec 32 := Scalar.muli v129 c1_i32_88
  let v218 : BitVec 32 := Scalar.addi c0_i32_89 v217
  v218.toNat
def k0_dev6 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_94 : BitVec 32 := 3#32
  let v227 : BitVec 32 := Scalar.addi v2 c3_i32_94
  let c4_i32_95 : BitVec 32 := 4#32
  let v228 : BitVec 32 := Scalar.remsi v227 c4_i32_95
  let c1_i32_128 : BitVec 32 := 1#32
  let v316 : BitVec 32 := Scalar.muli v228 c1_i32_128
  let v317 : BitVec 32 := Scalar.addi c0_i32_129 v316
  v317.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_134 : BitVec 32 := 256#32
  let v326 : BitVec 32 := Scalar.muli v2 c256_i32_134
  let v327 : Index := Scalar.indexCast v326
  let c0_135 : Index := 0#32
  ![v327.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_142 : BitVec 32 := 256#32
  let v352 : BitVec 32 := Scalar.muli v2 c256_i32_142
  let v353 : Index := Scalar.indexCast v352
  let c0_143 : Index := 0#32
  ![v353.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S512x1024 : Shape := ⟨2, ![512, 1024]⟩
abbrev S1024x16 : Shape := ⟨2, ![1024, 16]⟩
abbrev S_ : Shape := ⟨0, ![]⟩
abbrev S1024 : Shape := ⟨1, ![1024]⟩
abbrev S1024x1024 : Shape := ⟨2, ![1024, 1024]⟩
abbrev S1024x512x1024 : Shape := ⟨3, ![1024, 512, 1024]⟩
abbrev S1024x2 : Shape := ⟨2, ![1024, 2]⟩

abbrev nBuf : Space → Nat
  | .hbm => 52
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x1, .i32⟩
  | .hbm, ⟨3, _⟩ => ⟨S16x512x1024, .f32⟩
  | .hbm, ⟨4, _⟩ => ⟨S512x1024, .f32⟩
  | .hbm, ⟨5, _⟩ => ⟨S1024x16, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x16, .f32⟩
  | .hbm, ⟨10, _⟩ => ⟨S1024x16, .f32⟩
  | .hbm, ⟨11, _⟩ => ⟨S1024x16, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x16, .f32⟩
  | .hbm, ⟨16, _⟩ => ⟨S1024x16, .f32⟩
  | .hbm, ⟨17, _⟩ => ⟨S1024x1024, .f32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024x512x1024, .f32⟩
  | .hbm, ⟨28, _⟩ => ⟨S1024x1024, .f32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S1024x1, .i32⟩
  | .hbm, ⟨45, _⟩ => ⟨S1024x1, .i32⟩
  | .hbm, ⟨46, _⟩ => ⟨S1024x2, .i32⟩
  | .hbm, ⟨47, _⟩ => ⟨S1024, .f32⟩
  | .hbm, ⟨48, _⟩ => ⟨S1024x1, .f32⟩
  | .hbm, ⟨49, _⟩ => ⟨S1024x1024, .f32⟩
  | .hbm, ⟨50, _⟩ => ⟨S1024x1024, .f32⟩
  | .hbm, ⟨51, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.KernelIdealProtocol.lean ====
/- How the four devices of `KernelIdeal` talk to each other, as duties on semaphore cells.

   Every semaphore is used once (round 0).

   * The barrier cell of device `c` waits for three units.  Duty `j` is paid by the device `dst j c` into which `c` will
     send its slot `j`; with the unit that device hands over its receive slot `j`.
   * The receive cell `j` of device `c` waits for one block.  It is paid by the transfer of device `src j c`, and the
     landing hands `c` its receive slot `j` holding the block that `src j c` packed for it (`sent j (src j c)`).
   * The send cell `j` of device `c` is paid by `c`'s own transfer, which hands the send slot `j` back. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Writes

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Who sends to whom -/

/-- Slot `j` of a device goes this many devices ahead. -/
abbrev off : Fin 3 → ℕ := ![2, 1, 3]

set_option backward.proofsInPublic true in
/-- The device that slot `j` of device `c` is sent to. -/
def dst (j : Fin 3) (c : Dev nD) : Dev nD := ⟨(c.val + off j) % 4, Nat.mod_lt _ (by decide)⟩

set_option backward.proofsInPublic true in
/-- The device whose slot `j` is sent to device `c`. -/
def src (j : Fin 3) (c : Dev nD) : Dev nD := ⟨(c.val + (4 - off j)) % 4, Nat.mod_lt _ (by decide)⟩

/-- `src j` undoes `dst j`. -/
theorem src_dst (j : Fin 3) (c : Dev nD) : src j (dst j c) = c := by revert j c; decide
/-- `dst j` undoes `src j`. -/
theorem dst_src (j : Fin 3) (c : Dev nD) : dst j (src j c) = c := by revert j c; decide

/-- Sending slot `j` permutes the devices. -/
def around (j : Fin 3) : Dev nD ≃ Dev nD := ⟨dst j, src j, src_dst j, dst_src j⟩

/-- The three signals of device `c` go to the devices whose slots 2, 0, 1 it receives. -/
theorem dev1_eq (c : Dev nD) : (⟨k0_dev1 c, k0_dev1_lt c⟩ : Dev nD) = src 2 c := Fin.ext (k0_dev1_eq c)
theorem dev2_eq (c : Dev nD) : (⟨k0_dev2 c, k0_dev2_lt c⟩ : Dev nD) = src 0 c := Fin.ext (k0_dev2_eq c)
theorem dev3_eq (c : Dev nD) : (⟨k0_dev3 c, k0_dev3_lt c⟩ : Dev nD) = src 1 c := Fin.ext (k0_dev3_eq c)
/-- Its three transfers go to `dst 0 c`, `dst 1 c`, `dst 2 c`. -/
theorem dev4_eq (c : Dev nD) : (⟨k0_dev4 c, k0_dev4_lt c⟩ : Dev nD) = dst 0 c := Fin.ext (k0_dev4_eq c)
theorem dev5_eq (c : Dev nD) : (⟨k0_dev5 c, k0_dev5_lt c⟩ : Dev nD) = dst 1 c := Fin.ext (k0_dev5_eq c)
theorem dev6_eq (c : Dev nD) : (⟨k0_dev6 c, k0_dev6_lt c⟩ : Dev nD) = dst 2 c := Fin.ext (k0_dev6_eq c)

/-! ## The buffers and the cells -/

abbrev xM : Memref sig .tc .vmem S1024x512 .f32 := Memref.whole cc0_stg0_0
abbrev rwM : Memref sig .tc .vmem S512x16 .f32 := Memref.whole cc0_stg1_0
abbrev ixM : Memref sig .tc .vmem S1024x1 .i32 := Memref.whole cc0_stg2_0
abbrev ewM : Memref sig .tc .vmem S4x512x1024 .f32 := Memref.whole cc0_stg3_0
abbrev swM : Memref sig .tc .vmem S512x1024 .f32 := Memref.whole cc0_stg4_0
abbrev oM : Memref sig .tc .vmem S256x1024 .f32 := Memref.whole cc0_stg5_0
/-- The send buffer and the receive buffer, three slots each. -/
abbrev sM : Memref sig .tc .vmem S3x96x1024 .bf16 := Memref.whole cc0_scratch0
abbrev vM : Memref sig .tc .vmem S3x96x1024 .bf16 := Memref.whole cc0_scratch1

/-- Each slot lies inside its buffer. -/
theorem slot_inb : ∀ j : Fin 3, ∀ a, (![j.val, 0, 0] : Fin 3 → Nat) a + S1x96x1024.size a ≤ S3x96x1024.size a := by decide

/-- Slot `j` of a three-slot buffer. -/
abbrev slotR (j : Fin 3) : Rect S3x96x1024 := Rect.unit (s := S3x96x1024) ![j.val, 0, 0] S1x96x1024.size (slot_inb j)

/-- Slot `j` of the send buffer and of the receive buffer. -/
abbrev sSlot (j : Fin 3) : Memref sig .tc .vmem S96x1024 .bf16 :=
  (sM.slice (slotR j) (fun _ => rfl)).squeeze S96x1024 squeezes_S1x96x1024_S96x1024
abbrev vSlot (j : Fin 3) : Memref sig .tc .vmem S96x1024 .bf16 :=
  (vM.slice (slotR j) (fun _ => rfl)).squeeze S96x1024 squeezes_S1x96x1024_S96x1024

/-- The runtime's barrier semaphore, the three send semaphores, the three receive semaphores. -/
abbrev barS : Sem sig := (SemArray.scalar (sig.barrier 0 rfl) : Sems sig S_).sem
abbrev sS : Fin 3 → DmaSem sig := fun | 0 => (6 : Fin 12) | 1 => (7 : Fin 12) | 2 => (8 : Fin 12)
abbrev vS : Fin 3 → DmaSem sig := fun | 0 => (9 : Fin 12) | 1 => (10 : Fin 12) | 2 => (11 : Fin 12)

/-- The semaphores that the kernel indexes out of its two arrays are the ones named above. -/
theorem sS0_eq : ((cc0_scratch2.slice (Rect.unit (s := S3) ![0] S1.size inb_S3_S1_0)).squeeze S_ squeezes_S1_S_).sem = sS 0 := by decide
theorem sS1_eq : ((cc0_scratch2.slice (Rect.unit (s := S3) ![1] S1.size inb_S3_S1_1)).squeeze S_ squeezes_S1_S_).sem = sS 1 := by decide
theorem sS2_eq : ((cc0_scratch2.slice (Rect.unit (s := S3) ![2] S1.size inb_S3_S1_2)).squeeze S_ squeezes_S1_S_).sem = sS 2 := by decide
theorem vS0_eq : ((cc0_scratch3.slice (Rect.unit (s := S3) ![0] S1.size inb_S3_S1_0)).squeeze S_ squeezes_S1_S_).sem = vS 0 := by decide
theorem vS1_eq : ((cc0_scratch3.slice (Rect.unit (s := S3) ![1] S1.size inb_S3_S1_1)).squeeze S_ squeezes_S1_S_).sem = vS 1 := by decide
theorem vS2_eq : ((cc0_scratch3.slice (Rect.unit (s := S3) ![2] S1.size inb_S3_S1_2)).squeeze S_ squeezes_S1_S_).sem = vS 2 := by decide

/-- The kernel's own six semaphores, in order: three send, three receive. -/
abbrev osem : Fin 6 → SemLoc sig := fun
  | 0 => .dma (sS 0) | 1 => .dma (sS 1) | 2 => .dma (sS 2) | 3 => .dma (vS 0) | 4 => .dma (vS 1) | 5 => .dma (vS 2)
/-- All seven cells of a device: its barrier, its send cells, its receive cells. -/
abbrev csem : Fin 7 → SemLoc sig := fun
  | 0 => .reg barS | 1 => .dma (sS 0) | 2 => .dma (sS 1) | 3 => .dma (sS 2) | 4 => .dma (vS 0) | 5 => .dma (vS 1) | 6 => .dma (vS 2)

/-- The index among the seven of send cell `j` and of receive cell `j`. -/
abbrev sIx : Fin 3 → Fin 7 := ![1, 2, 3]
abbrev vIx : Fin 3 → Fin 7 := ![4, 5, 6]

abbrev kcell (ck : Dev nD × Fin 7) : GSem nD τ sig := ((ck.1 : Thread nD τ), csem ck.2)
abbrev barCell (c : Dev nD) : GSem nD τ sig := ((c : Thread nD τ), .reg barS)
abbrev sCell (j : Fin 3) (c : Dev nD) : GSem nD τ sig := ((c : Thread nD τ), .dma (sS j))
abbrev vCell (j : Fin 3) (c : Dev nD) : GSem nD τ sig := ((c : Thread nD τ), .dma (vS j))

/-- Where the send and the receive semaphores stand in the list, and that the list has no repetition. -/
theorem csem_s (j : Fin 3) : csem (sIx j) = .dma (sS j) := by fin_cases j <;> rfl
theorem csem_v (j : Fin 3) : csem (vIx j) = .dma (vS j) := by fin_cases j <;> rfl
theorem csem_injective : Function.Injective csem := by decide

/-- Which of the seven a semaphore is, if any. -/
def which (s : SemLoc sig) : Option (Fin 7) := (List.finRange 7).find? fun k => csem k = s
/-- Looking a semaphore up in the list gives its place. -/
theorem which_csem : ∀ k, which (csem k) = some k := by decide
theorem which_bar : which (.reg barS) = some 0 := which_csem 0
theorem which_s (j : Fin 3) : which (.dma (sS j)) = some (sIx j) := by rw [← csem_s]; exact which_csem _
theorem which_v (j : Fin 3) : which (.dma (vS j)) = some (vIx j) := by rw [← csem_v]; exact which_csem _

/-- What one block's transfer counts on a semaphore. -/
abbrev N : ℕ := (vSlot 0).view.dmaCredit
/-- A block pays a positive amount, the same for every slot. -/
theorem N_pos : 0 < N := View.dmaCredit_pos _ (by decide)
theorem credit_v (j : Fin 3) : (vSlot j).view.dmaCredit = N := by fin_cases j <;> rfl
theorem credit_s (j : Fin 3) : (sSlot j).view.dmaCredit = N := by fin_cases j <;> rfl

/-! ## Contents -/

/-- The five inputs as staged on device `c`. -/
def xstg (c : Dev nD) : (cc0_stg0_0 : Ref sig .tc).ty.Contents (Elt F) :=
  (win0_0.blk (0 : Fin 1)).view.read (Elt F) (m ((c : Thread nD τ).loc main_arg0))
def rwstg (c : Dev nD) : (cc0_stg1_0 : Ref sig .tc).ty.Contents (Elt F) :=
  (win0_1.blk (0 : Fin 1)).view.read (Elt F) (m ((c : Thread nD τ).loc main_arg1))
def ixstg (c : Dev nD) : (cc0_stg2_0 : Ref sig .tc).ty.Contents (Elt F) :=
  (win0_2.blk (0 : Fin 1)).view.read (Elt F) (m ((c : Thread nD τ).loc main_arg2))
def ewstg (c : Dev nD) : (cc0_stg3_0 : Ref sig .tc).ty.Contents (Elt F) :=
  (win0_3.blk (0 : Fin 1)).view.read (Elt F) (m ((c : Thread nD τ).loc main_arg3))
def swstg (c : Dev nD) : (cc0_stg4_0 : Ref sig .tc).ty.Contents (Elt F) :=
  (win0_4.blk (0 : Fin 1)).view.read (Elt F) (m ((c : Thread nD τ).loc main_arg4))

/-- The device's number as the kernel computes it. -/
abbrev myW (c : Dev nD) : BitVec 32 := Scalar.remsi (Scalar.divsi (Dev.word c) 1#32) 4#32

/-- The whole router matrix, expert matrices (stacked) and shared matrix as loaded. -/
def rwAt (c : Dev nD) : Vec F S512x16 .f32 :=
  (rwM : Memref sig .tc .vmem S512x16 .f32).view.readAt (Elt F) (Rect.unit (s := S512x16) ![0, 0] S512x16.size inb_S512x16_S512x16_0_0).toLoadRect (rwstg m c)
def ewAt (c : Dev nD) : Vec F S4x512x1024 .f32 :=
  (ewM : Memref sig .tc .vmem S4x512x1024 .f32).view.readAt (Elt F) (Rect.unit (s := S4x512x1024) ![0, 0, 0] S4x512x1024.size inb_S4x512x1024_S4x512x1024_0_0_0).toLoadRect (ewstg m c)
def swAt (c : Dev nD) : Vec F S512x1024 .f32 :=
  (swM : Memref sig .tc .vmem S512x1024 .f32).view.readAt (Elt F) (Rect.unit (s := S512x1024) ![0, 0] S512x1024.size inb_S512x1024_S512x1024_0_0).toLoadRect (swstg m c)

/-- The routing column and the token rows of the chunk `1 + r` devices ahead. -/
def ixAt (c : Dev nD) (r : Fin 3) : Vec F S256x1 .i32 :=
  (ixM : Memref sig .tc .vmem S1024x1 .i32).view.readAt (Elt F)
    (Rect.unit (s := S1024x1) (k0_off1 c (BitVec.ofNat 32 (1 + r.val))) S256x1.size (k0_off1_inb c r)).toLoadRect (ixstg m c)
def xAt (c : Dev nD) (r : Fin 3) : Vec F S256x512 .f32 :=
  (xM : Memref sig .tc .vmem S1024x512 .f32).view.readAt (Elt F)
    (Rect.unit (s := S1024x512) (k0_off2 c (BitVec.ofNat 32 (1 + r.val))) S256x512.size (k0_off2_inb c r)).toLoadRect (xstg m c)
/-- The same of the device's own chunk. -/
def ixOwn (c : Dev nD) : Vec F S256x1 .i32 :=
  (ixM : Memref sig .tc .vmem S1024x1 .i32).view.readAt (Elt F) (Rect.unit (s := S1024x1) (k0_off3 c) S256x1.size (k0_off3_inb c)).toLoadRect (ixstg m c)
def xOwn (c : Dev nD) : Vec F S256x512 .f32 :=
  (xM : Memref sig .tc .vmem S1024x512 .f32).view.readAt (Elt F) (Rect.unit (s := S1024x512) (k0_off4 c) S256x512.size (k0_off4_inb c)).toLoadRect (xstg m c)

/-- The block device `c` packs for slot 0 (the chunk two devices ahead). -/
def sent0 (c : Dev nD) : FVec F S1x96x1024 .bf16 :=
  k0_pay7 (myW c) (k0_pay1 (ewAt m c)) (k0_pay4 (myW c) (k0_pay2 (F := F)) (ixAt m c 1)) (k0_pay5 (myW c) (k0_pay2 (F := F)) (ixAt m c 1) (xAt m c 1))
    (k0_pay6 (xAt m c 1) (rwAt m c)) (ixAt m c 1)

/-- Its gather matrix for slot 1, -/
abbrev gat1 (c : Dev nD) : FVec F S96x256 .f32 := k0_pay8 (myW c) (k0_pay2 (F := F)) (ixAt m c 0)

/-- the block for slot 1 (the chunk one device ahead), -/
def sent1 (c : Dev nD) : FVec F S1x96x1024 .bf16 :=
  k0_pay13 (k0_pay1 (ewAt m c)) (k0_pay9 (gat1 m c) (xAt m c 0))
    (k0_pay10 (myW c) (gat1 m c) (xAt m c 0) (rwAt m c) (ixAt m c 0))
    (k0_pay11 (myW c) (gat1 m c) (xAt m c 0) (xAt m c 0) (rwAt m c) (ixAt m c 0))
    (k0_pay12 (myW c) (gat1 m c) (xAt m c 0) (rwAt m c) (ixAt m c 0))

/-- the block for slot 2 (the chunk three devices ahead), -/
def sent2 (c : Dev nD) : FVec F S1x96x1024 .bf16 :=
  k0_pay21 (myW c) (k0_pay1 (ewAt m c)) (k0_pay15 (k0_pay2 (F := F)) (k0_pay14 (myW c) (ixAt m c 2)))
    (k0_pay16 (k0_pay2 (F := F)) (k0_pay14 (myW c) (ixAt m c 2)) (xAt m c 2)) (k0_pay17 (xAt m c 2) (rwAt m c))
    (k0_pay18 (ixAt m c 2)) (k0_pay19 (ixAt m c 2)) (k0_pay20 (F := F))

/-- by slot. -/
def sent (j : Fin 3) : Dev nD → FVec F S1x96x1024 .bf16 := match j with
  | 0 => sent0 m | 1 => sent1 m | 2 => sent2 m

/-- The partial result device `c` keeps: its own experts on its own chunk, with the shared expert. -/
def ownAt (c : Dev nD) : FVec F S256x1024 .f32 :=
  k0_pay29 (k0_pay3 (F := F))
    (k0_pay26 (myW c) (k0_pay1 (ewAt m c)) (k0_pay22 (myW c) (k0_pay2 (F := F)) (ixOwn m c)) (k0_pay23 (myW c) (k0_pay2 (F := F)) (ixOwn m c) (xOwn m c))
      (k0_pay24 (xOwn m c) (rwAt m c)) (k0_pay25 (xOwn m c) (rwAt m c)) (ixOwn m c))
    (k0_pay27 (ixOwn m c)) (Scalar.muli (myW c) 4#32) (k0_pay28 (myW c)) (xOwn m c) (swAt m c)

/-- The kernel's result on device `c`: its own partial result and the three received blocks scattered onto it. -/
def outAt (c : Dev nD) : FVec F S256x1024 .f32 :=
  k0_pay32 (myW c) (k0_pay3 (F := F))
    (k0_pay31 (myW c) (k0_pay3 (F := F))
      (k0_pay30 (k0_pay3 (F := F)) (ownAt m c) (Scalar.addi (myW c) 2#32) (ixOwn m c) (sent m 0 (src 0 c)))
      (ixOwn m c) (sent m 1 (src 1 c)))
    (ixOwn m c) (sent m 2 (src 2 c))

/-! ## Slots -/

/-- Slot `j` of the send buffer (of the receive buffer) of device `c`, holding contents that read as `X`. -/
def sHas (j : Fin 3) (c : Dev nD) (X : FVec F S1x96x1024 .bf16) : sProp 𝕄 :=
  iprop(∃ f : Buf (Elt F) ((sM : Memref sig .tc .vmem S3x96x1024 .bf16).view.loc (c : Thread nD τ)),
    ⌜((sM : Memref sig .tc .vmem S3x96x1024 .bf16).access (slotR j)).read (Elt F) f = X⌝
      ∗ (((sM : Memref sig .tc .vmem S3x96x1024 .bf16).access (slotR j)).loc (c : Thread nD τ)
          ↦[((sM : Memref sig .tc .vmem S3x96x1024 .bf16).access (slotR j)).set]{fullShare} f))
def vHas (j : Fin 3) (c : Dev nD) (X : FVec F S1x96x1024 .bf16) : sProp 𝕄 :=
  iprop(∃ f : Buf (Elt F) ((vM : Memref sig .tc .vmem S3x96x1024 .bf16).view.loc (c : Thread nD τ)),
    ⌜((vM : Memref sig .tc .vmem S3x96x1024 .bf16).access (slotR j)).read (Elt F) f = X⌝
      ∗ (((vM : Memref sig .tc .vmem S3x96x1024 .bf16).access (slotR j)).loc (c : Thread nD τ)
          ↦[((vM : Memref sig .tc .vmem S3x96x1024 .bf16).access (slotR j)).set]{fullShare} f))

omit [FloatOps F] in
instance sHas_storable (j : Fin 3) (c : Dev nD) (X : FVec F S1x96x1024 .bf16) : BI.Storable (upEmb : UEmb _ 𝕄) (sHas j c X) := by
  unfold sHas; infer_instance
omit [FloatOps F] in
instance vHas_storable (j : Fin 3) (c : Dev nD) (X : FVec F S1x96x1024 .bf16) : BI.Storable (upEmb : UEmb _ 𝕄) (vHas j c X) := by
  unfold vHas; infer_instance

/-! ## The schedule -/

/-- What duty `j` of `c`'s barrier cell hands over: the receive slot `j` of the device `c` will send to, and that the
    device has reached round 0 of its receive cell. -/
def barPay (j : Fin 3) (c : Dev nD) : sProp 𝕄 := iprop((∃ X, vHas j (dst j c) X) ∗ reached ER (vCell j (dst j c)) 0)
def sPay (j : Fin 3) (c : Dev nD) : sProp 𝕄 := sHas j c (sent m j c)
def vPay (j : Fin 3) (c : Dev nD) : sProp 𝕄 := vHas j c (sent m j (src j c))

omit [FloatOps F] in
instance barPay_storable (j : Fin 3) (c : Dev nD) : BI.Storable (upEmb : UEmb _ 𝕄) (barPay (F := F) j c) := by
  unfold barPay; infer_instance
instance sPay_storable (j : Fin 3) (c : Dev nD) : BI.Storable (upEmb : UEmb _ 𝕄) (sPay m j c) := by
  unfold sPay; infer_instance
instance vPay_storable (j : Fin 3) (c : Dev nD) : BI.Storable (upEmb : UEmb _ 𝕄) (vPay m j c) := by
  unfold vPay; infer_instance

/-- The payload of duty `d` of the `k`-th cell of device `c`. -/
def payOf (c : Dev nD) (d : Fin 3) : Option (Fin 7) → sProp 𝕄
  | some 0 => barPay d c
  | some 1 => sPay m 0 c | some 2 => sPay m 1 c | some 3 => sPay m 2 c
  | some 4 => vPay m 0 c | some 5 => vPay m 1 c | some 6 => vPay m 2 c
  | _ => iprop(emp)

instance payOf_storable (c : Dev nD) (d : Fin 3) (k : Option (Fin 7)) : BI.Storable (upEmb : UEmb _ 𝕄) (payOf m c d k) := by
  unfold payOf; split <;> infer_instance

/-- One round: a barrier cell has the three duties of one unit each, a send or receive cell the single duty `0` of a
    block's credit. -/
def rd : Rounds.Schedule (GSem nD τ sig) (Fin 3) 𝕄 where
  duties g r := if r = 0 ∧ g.1.2 = .tc then (if g.2 = .reg barS then Finset.univ else if (which g.2).isSome then {0} else ∅) else ∅
  unitless _ := False
  amount g _ _ := if g.2 = .reg barS then 1 else N
  payload g _ d := payOf m g.1.1 d (which g.2)
  amount_pos g _ _ _ := by
    by_cases h : g.2 = .reg barS
    · rw [if_pos h]; exact Nat.one_pos
    · rw [if_neg h]; exact N_pos

instance rd_payload_storable (g : GSem nD τ sig) (r : ℕ) (d : Fin 3) : BI.Storable (upEmb : UEmb _ 𝕄) ((rd m).payload g r d) :=
  payOf_storable m _ _ _

section Sched
variable (j : Fin 3) (c : Dev nD)

/-- No transfer semaphore is the barrier. -/
theorem s_ne_bar : (SemLoc.dma (sS j) : SemLoc sig) ≠ .reg barS := fun h => by cases h
theorem v_ne_bar : (SemLoc.dma (vS j) : SemLoc sig) ≠ .reg barS := fun h => by cases h

/-- The barrier has three duties; a transfer semaphore has one; after round 0 there are none. -/
theorem duties_bar : (rd m).duties (barCell c) 0 = Finset.univ := by
  dsimp only [rd]; rw [if_pos ⟨rfl, rfl⟩, if_pos rfl]
theorem duties_s : (rd m).duties (sCell j c) 0 = {0} := by
  dsimp only [rd]; rw [if_pos ⟨rfl, rfl⟩, if_neg (s_ne_bar j), which_s]; rfl
theorem duties_v : (rd m).duties (vCell j c) 0 = {0} := by
  dsimp only [rd]; rw [if_pos ⟨rfl, rfl⟩, if_neg (v_ne_bar j), which_v]; rfl
theorem duties_later (g : GSem nD τ sig) : ∀ r, 1 ≤ r → (rd m).duties g r = ∅ :=
  fun r hr => by dsimp only [rd]; rw [if_neg fun h => by omega]

/-- A signal pays one unit and a transfer one block. -/
theorem amount_bar (d : Fin 3) : (rd m).amount (barCell c) 0 d = 1 := by dsimp only [rd]; exact if_pos rfl
theorem amount_s (d : Fin 3) : (rd m).amount (sCell j c) 0 d = N := by dsimp only [rd]; exact if_neg (s_ne_bar j)
theorem amount_v (d : Fin 3) : (rd m).amount (vCell j c) 0 d = N := by dsimp only [rd]; exact if_neg (v_ne_bar j)

/-- The barrier waits for three units in all and a transfer semaphore for one block. -/
theorem expect_bar : (rd m).expect (barCell c) 0 = 3 := by
  unfold Schedule.expect Schedule.amountOf
  rw [duties_bar, Finset.sum_congr rfl fun d _ => amount_bar m c d, Finset.sum_const, Finset.card_univ, Fintype.card_fin, smul_eq_mul]
theorem expect_s : (rd m).expect (sCell j c) 0 = N := by
  unfold Schedule.expect Schedule.amountOf; rw [duties_s, Finset.sum_singleton, amount_s]
theorem expect_v : (rd m).expect (vCell j c) 0 = N := by
  unfold Schedule.expect Schedule.amountOf; rw [duties_v, Finset.sum_singleton, amount_v]

/-- What the duties hand over. -/
theorem payload_bar (d : Fin 3) : (rd m).payload (barCell c) 0 d = barPay d c := by dsimp only [rd]; rw [which_bar]; rfl
theorem payload_s (d : Fin 3) : (rd m).payload (sCell j c) 0 d = sPay m j c := by dsimp only [rd]; rw [which_s]; fin_cases j <;> rfl
theorem payload_v (d : Fin 3) : (rd m).payload (vCell j c) 0 d = vPay m j c := by dsimp only [rd]; rw [which_v]; fin_cases j <;> rfl

/-- The barrier wait collects the three receive slots. -/
theorem rest_bar : bigSep ((rd m).duties (barCell c) 0 \ ∅) (fun d => (rd m).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
/-- All that a transfer semaphore hands over in its round is its one payload. -/
theorem rest_s : bigSep ((rd m).duties (sCell j c) 0 \ ∅) (fun d => (rd m).payload (sCell j c) 0 d) = sPay m j c := by
  rw [Finset.sdiff_empty, duties_s, bigSep_singleton, payload_s]
theorem rest_v : bigSep ((rd m).duties (vCell j c) 0 \ ∅) (fun d => (rd m).payload (vCell j c) 0 d) = vPay m j c := by
  rw [Finset.sdiff_empty, duties_v, bigSep_singleton, payload_v]

end Sched

/-! ## What each device owes at launch; the levels -/

/-- The receive credits of the transfers still to be issued: after the second, after the first, before any. -/
def O₃ (c : Dev nD) : CellTallies nD τ sig Unit := tallyAt (vCell 2 (dst 2 c)) () N
def O₂ (c : Dev nD) : CellTallies nD τ sig Unit := O₃ c + tallyAt (vCell 1 (dst 1 c)) () N
def O₁ (c : Dev nD) : CellTallies nD τ sig Unit := O₂ c + tallyAt (vCell 0 (dst 0 c)) () N
/-- Before the third, the second, the first signal: a barrier unit more each. -/
def OB₃ (c : Dev nD) : CellTallies nD τ sig Unit := O₁ c + tallyAt (barCell (src 1 c)) () 1
def OB₂ (c : Dev nD) : CellTallies nD τ sig Unit := OB₃ c + tallyAt (barCell (src 0 c)) () 1
def O₀ (c : Dev nD) : CellTallies nD τ sig Unit := OB₂ c + tallyAt (barCell (src 2 c)) () 1

def L (g : GSem nD τ sig) : Finset Unit := if g.1.2 = .tc then {()} else ∅
/-- Barrier cells at 1, receive cells at 2, everything else at 0. -/
def lv (g : GSem nD τ sig) (_ : Unit) : ℕ :=
  if g.2 = .reg barS then 1 else if g.2 = .dma (vS 0) ∨ g.2 = .dma (vS 1) ∨ g.2 = .dma (vS 2) then 2 else 0

/-- Only the cores' own cells have a level. -/
theorem L_of_ne (g : GSem nD τ sig) (h : g.1.2 ≠ .tc) : L g = ∅ := if_neg h
theorem L_tc (c : Dev nD) (sm : SemLoc sig) : L ((c : Thread nD τ), sm) = {()} := if_pos rfl

/-- The barrier's level is below that of the receive semaphores. -/
theorem lv_bar (c : Dev nD) : lv (barCell c) () = 1 := if_pos rfl
theorem lv_v (j : Fin 3) (c : Dev nD) : lv (vCell j c) () = 2 := by
  dsimp only [lv]; rw [if_neg (v_ne_bar j), if_pos]; fin_cases j <;> simp

/-- A cell owed something among the receive credits is a receive cell of a destination; -/
theorem O₁_pos {c : Dev nD} {g : GSem nD τ sig} {u : Unit} (h : 0 < O₁ c g u) : ∃ j, g = vCell j (dst j c) := by
  by_contra hn
  push Not at hn
  unfold O₁ O₂ O₃ at h
  rw [Pi.add_apply, Finsupp.add_apply, Pi.add_apply, Finsupp.add_apply, tallyAt_apply, tallyAt_apply, tallyAt_apply,
    if_neg (fun h' => hn 2 h'.1), if_neg (fun h' => hn 1 h'.1), if_neg (fun h' => hn 0 h'.1)] at h
  exact Nat.lt_irrefl 0 h

/-- among all that is owed at launch, that or the barrier cell of a source. -/
theorem O₀_pos {c : Dev nD} {g : GSem nD τ sig} {u : Unit} (h : 0 < O₀ c g u) :
    (∃ j, g = vCell j (dst j c)) ∨ ∃ j, g = barCell (src j c) := by
  by_contra hn
  rw [not_or] at hn
  obtain ⟨h1, h2⟩ := hn
  push Not at h2
  have h3 : ¬ 0 < O₁ c g u := fun h => h1 (O₁_pos h)
  unfold O₀ OB₂ OB₃ at h
  rw [Pi.add_apply, Finsupp.add_apply, Pi.add_apply, Finsupp.add_apply, Pi.add_apply, Finsupp.add_apply, tallyAt_apply, tallyAt_apply, tallyAt_apply,
    if_neg (fun h' => h2 1 h'.1), if_neg (fun h' => h2 0 h'.1), if_neg (fun h' => h2 2 h'.1)] at h
  exact h3 h

omit [FloatOps F] in
/-- A device may wait on a staging or send semaphore whatever it owes. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact hq.le)
      (fun g u hg => by
        rcases O₀_pos hg with ⟨j, rfl⟩ | ⟨j, rfl⟩
        · rw [lv_v]; decide
        · rw [lv_bar]; decide)
  · rw [MayWait_zero]; iintro -; iempintro

omit [FloatOps F] in
/-- At its barrier wait a device owes receive credits only, which lie above the barrier. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨j, rfl⟩ := O₁_pos hg; exact Finset.mem_singleton_self _)
    (fun p hp => by rw [Finset.mem_singleton.mp hp]; exact (lv_bar c).le)
    (fun g u hg => by obtain ⟨j, rfl⟩ := O₁_pos hg; rw [lv_v]; decide)

end Cert.KernelIdeal.Run

end
-- ==== Proof.KernelIdealSteps.lean ====
/- The memory steps of a device on the slots of its send and receive buffers. -/
module

public import proofs.«01_k».proof.Proof.KernelIdealProtocol

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

variable (j : Fin 3) (c : Dev nD)

/-- Loading a send slot reads its contents. -/
theorem wp_load_s {X : FVec F S1x96x1024 .bf16} {hl : (sM : Memref sig .tc .vmem S3x96x1024 .bf16).view.LoadsAt (slotR j).toLoadRect} {α : Type} {Q : α → sProp 𝕄}
    {k : ((slotR j).toLoadRect.shape.Idx → Elt F .bf16) → Prog (TpuEff nD τ sig (Elt F) Λ₀ .tc) α} :
    sHas j c X ⊢ iprop((sHas j c X -∗ wp frame (wpE (defs₀ (F := F)) 𝒱₀ (c : Thread nD τ) none) Set.univ (k X) Q)
      -∗ wp frame (wpE (defs₀ (F := F)) 𝒱₀ (c : Thread nD τ) none) Set.univ (.op (.load sM (slotR j).toLoadRect hl) k) Q) := by
  unfold sHas
  iintro ⟨%f, %hf, H⟩ Hk
  iapply (wp_load_rect 𝒱₀ (c : Thread nD τ) none Set.univ (m := sM) (r := slotR j) subset_rfl) $$ H
  iintro H
  rw [hf]
  iapply Hk
  iexists f
  isplitr; · ipureintro; exact hf
  iexact H

/-- Loading a receive slot reads its contents. -/
theorem wp_load_v {X : FVec F S1x96x1024 .bf16} {hl : (vM : Memref sig .tc .vmem S3x96x1024 .bf16).view.LoadsAt (slotR j).toLoadRect} {α : Type} {Q : α → sProp 𝕄}
    {k : ((slotR j).toLoadRect.shape.Idx → Elt F .bf16) → Prog (TpuEff nD τ sig (Elt F) Λ₀ .tc) α} :
    vHas j c X ⊢ iprop((vHas j c X -∗ wp frame (wpE (defs₀ (F := F)) 𝒱₀ (c : Thread nD τ) none) Set.univ (k X) Q)
      -∗ wp frame (wpE (defs₀ (F := F)) 𝒱₀ (c : Thread nD τ) none) Set.univ (.op (.load vM (slotR j).toLoadRect hl) k) Q) := by
  unfold vHas
  iintro ⟨%f, %hf, H⟩ Hk
  iapply (wp_load_rect 𝒱₀ (c : Thread nD τ) none Set.univ (m := vM) (r := slotR j) subset_rfl) $$ H
  iintro H
  rw [hf]
  iapply Hk
  iexists f
  isplitr; · ipureintro; exact hf
  iexact H

/-- Storing a whole send slot leaves it with the stored contents. -/
theorem wp_store_s {X Y : FVec F S1x96x1024 .bf16} {hx : ((sM : Memref sig .tc .vmem S3x96x1024 .bf16).access (slotR j)).Stores Finset.univ}
    {hm : (Finset.univ : Finset (slotR j).shape.Idx) = Finset.univ ∨ ∀ a, (slotR j).stride a = 1} {α : Type} {Q : α → sProp 𝕄}
    {k : PUnit → Prog (TpuEff nD τ sig (Elt F) Λ₀ .tc) α} :
    sHas j c X ⊢ iprop((sHas j c Y -∗ wp frame (wpE (defs₀ (F := F)) 𝒱₀ (c : Thread nD τ) none) Set.univ (k ⟨⟩) Q)
      -∗ wp frame (wpE (defs₀ (F := F)) 𝒱₀ (c : Thread nD τ) none) Set.univ (.op (.store sM (slotR j) Y Finset.univ hx hm) k) Q) := by
  unfold sHas
  iintro ⟨%f, %hf, H⟩ Hk
  iapply (wp_store 𝒱₀ (c : Thread nD τ) none Set.univ (m := sM) (r := slotR j) (Mk := Finset.univ) (by rw [View.setOn_univ])) $$ H
  iintro H
  iapply Hk
  iexists _
  isplitr
  rotate_left
  · iexact H
  · ipureintro; exact View.read_write_univ _ _

/-- The elements of send slot `j` (of receive slot `j`) as the transfer's squeezed view names them. -/
abbrev sPts (f : Buf (Elt F) ((sSlot j : Memref sig .tc .vmem S96x1024 .bf16).view.loc (c : Thread nD τ))) : sProp 𝕄 :=
  (sSlot j : Memref sig .tc .vmem S96x1024 .bf16).view.loc (c : Thread nD τ) ↦[(sSlot j : Memref sig .tc .vmem S96x1024 .bf16).view.set]{fullShare} f
abbrev vPts (f : Buf (Elt F) ((vSlot j : Memref sig .tc .vmem S96x1024 .bf16).view.loc (c : Thread nD τ))) : sProp 𝕄 :=
  (vSlot j : Memref sig .tc .vmem S96x1024 .bf16).view.loc (c : Thread nD τ) ↦[(vSlot j : Memref sig .tc .vmem S96x1024 .bf16).view.set]{fullShare} f

omit [FloatOps F] in
/-- A slot's elements are the elements of its rectangle. -/
theorem sSet : (sSlot j : Memref sig .tc .vmem S96x1024 .bf16).view.set = ((sM : Memref sig .tc .vmem S3x96x1024 .bf16).access (slotR j)).set :=
  View.set_reshape _ _
omit [FloatOps F] in
theorem vSet : (vSlot j : Memref sig .tc .vmem S96x1024 .bf16).view.set = ((vM : Memref sig .tc .vmem S3x96x1024 .bf16).access (slotR j)).set :=
  View.set_reshape _ _

omit [FloatOps F] in
/-- A slot's contents, over the squeezed view's elements. -/
theorem sHas_eq (X : FVec F S1x96x1024 .bf16) : sHas j c X
    = iprop(∃ f, ⌜((sM : Memref sig .tc .vmem S3x96x1024 .bf16).access (slotR j)).read (Elt F) f = X⌝ ∗ sPts j c f) := by
  unfold sHas sPts; rw [sSet]
omit [FloatOps F] in
/-- A receive slot that holds `X`, spelt out. -/
theorem vHas_eq (X : FVec F S1x96x1024 .bf16) : vHas j c X
    = iprop(∃ f, ⌜((vM : Memref sig .tc .vmem S3x96x1024 .bf16).access (slotR j)).read (Elt F) f = X⌝ ∗ vPts j c f) := by
  unfold vHas vPts; rw [vSet]

omit [FloatOps F] in
/-- What lands in the receive slot reads as what the send slot read. -/
theorem landed (f : Buf (Elt F) ((sSlot j : Memref sig .tc .vmem S96x1024 .bf16).view.loc (c : Thread nD τ)))
    (g : Buf (Elt F) ((vSlot j : Memref sig .tc .vmem S96x1024 .bf16).view.loc (c : Thread nD τ))) :
    ((vM : Memref sig .tc .vmem S3x96x1024 .bf16).access (slotR j)).read (Elt F)
        ((vSlot j : Memref sig .tc .vmem S96x1024 .bf16).view.write (Elt F) g ((sSlot j : Memref sig .tc .vmem S96x1024 .bf16).view.read (Elt F) f) Finset.univ)
      = ((sM : Memref sig .tc .vmem S3x96x1024 .bf16).access (slotR j)).read (Elt F) f := by
  refine (congrArg _ (View.write_reshape_univ (v := (vM : Memref sig .tc .vmem S3x96x1024 .bf16).access (slotR j))
    squeezes_S1x96x1024_S96x1024.numel_eq g ((sSlot j : Memref sig .tc .vmem S96x1024 .bf16).view.read (Elt F) f))).trans ?_
  refine (View.read_write_univ _ _).trans ?_
  funext x
  show ((sM : Memref sig .tc .vmem S3x96x1024 .bf16).access (slotR j)).read (Elt F) f
    (Shape.reshapeEquiv squeezes_S1x96x1024_S96x1024.numel_eq ((Shape.reshapeEquiv squeezes_S1x96x1024_S96x1024.numel_eq).symm x)) = _
  rw [Equiv.apply_symm_apply]

/-- The transfer of slot `j` to device `dst j c`, whose receive slot the sender holds: the send slot goes to the send
    duty's payload, the receive slot with the sent block to the receive duty's. -/
theorem wp_send_pts (κ₁ κ₂ : ℕ) (n : Dev nD) (hn : n = dst j c)
    {hsc : (vSlot j : Memref sig (Dev.tc n : Thread nD τ).2.kind .vmem S96x1024 .bf16).view.ref.isScScratch = false}
    {hsrc : (sSlot j : Memref sig .tc .vmem S96x1024 .bf16).view.WordExact} {hdst : (vSlot j : Memref sig .tc .vmem S96x1024 .bf16).view.WordExact}
    {hsem : DmaTarget.Typed .vmem (.dma (vS j)) (.remote (Dev.tc n : Thread nD τ) (vSlot j : Memref sig .tc .vmem S96x1024 .bf16) (.dma (sS j)) hsc)}
    {α : Type} {Q : α → sProp 𝕄} {k : PUnit → Prog (TpuEff nD τ sig (Elt F) Λ₀ .tc) α}
    (f : Buf (Elt F) ((sSlot j : Memref sig .tc .vmem S96x1024 .bf16).view.loc (c : Thread nD τ)))
    (hf : ((sM : Memref sig .tc .vmem S3x96x1024 .bf16).access (slotR j)).read (Elt F) f = sent m j c)
    (g : Buf (Elt F) ((vSlot j : Memref sig .tc .vmem S96x1024 .bf16).view.loc (dst j c : Thread nD τ)))
    (W : Waits sig Unit) (O : CellTallies nD τ sig Unit) :
    iprop(cellInv ER (rd m) κ₁ (sCell j c) ∗ cellInv ER (rd m) κ₂ (vCell j (dst j c))
        ∗ sPts j c f ∗ vPts j (dst j c) g
        ∗ owes (c : Thread nD τ) (O + tallyAt (vCell j (dst j c)) () N) W
        ∗ dutyTok ER (sCell j c) 0 0 ∗ reached ER (sCell j c) 0
        ∗ dutyTok ER (vCell j (dst j c)) 0 0 ∗ reached ER (vCell j (dst j c)) 0)
      ⊢ iprop(((cred (tallyAt (sCell j c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot j) (.remote (Dev.tc n : Thread nD τ) (vSlot j) (.dma (sS j)) hsc) (.dma (vS j)) hsrc hdst hsem) k) Q) := by
  subst hn
  exact Rounds.wp_send_pointsTo 𝒱₀ ER (rd m) (c : Thread nD τ) none (κ₁ := κ₁) (κ₂ := κ₂)
    (r₁ := 0) (r₂ := 0) (d₁ := 0) (d₂ := 0) (fd := g)
    (by rw [duties_s]; exact Finset.mem_singleton_self _) (by rw [duties_v]; exact Finset.mem_singleton_self _)
    () () N (show (vSlot j : Memref sig .tc .vmem S96x1024 .bf16).view.amount (.dma (vS j)) = N from credit_v j) (amount_s m j c 0) (amount_v m j (dst j c) 0) O rfl (W := W)
    (by
      rw [payload_s]; unfold sPay; rw [sHas_eq]
      iintro H
      iexists f
      isplitr; · ipureintro; exact hf
      iexact H)
    (by
      rw [payload_v]; unfold vPay; rw [vHas_eq]
      iintro H
      iexists _
      isplitr
      rotate_left
      · iexact H
      · ipureintro; rw [src_dst, ← hf]; exact landed j c f g)

/-- The same with the slots' contents named. -/
theorem wp_send_slot (κ₁ κ₂ : ℕ) (n : Dev nD) (hn : n = dst j c)
    {hsc : (vSlot j : Memref sig (Dev.tc n : Thread nD τ).2.kind .vmem S96x1024 .bf16).view.ref.isScScratch = false}
    {hsrc : (sSlot j : Memref sig .tc .vmem S96x1024 .bf16).view.WordExact} {hdst : (vSlot j : Memref sig .tc .vmem S96x1024 .bf16).view.WordExact}
    {hsem : DmaTarget.Typed .vmem (.dma (vS j)) (.remote (Dev.tc n : Thread nD τ) (vSlot j : Memref sig .tc .vmem S96x1024 .bf16) (.dma (sS j)) hsc)}
    {α : Type} {Q : α → sProp 𝕄} {k : PUnit → Prog (TpuEff nD τ sig (Elt F) Λ₀ .tc) α}
    (X : FVec F S1x96x1024 .bf16) (W : Waits sig Unit) (O : CellTallies nD τ sig Unit) :
    iprop(cellInv ER (rd m) κ₁ (sCell j c) ∗ cellInv ER (rd m) κ₂ (vCell j (dst j c))
        ∗ sHas j c (sent m j c) ∗ vHas j (dst j c) X
        ∗ owes (c : Thread nD τ) (O + tallyAt (vCell j (dst j c)) () N) W
        ∗ dutyTok ER (sCell j c) 0 0 ∗ reached ER (sCell j c) 0
        ∗ dutyTok ER (vCell j (dst j c)) 0 0 ∗ reached ER (vCell j (dst j c)) 0)
      ⊢ iprop(((cred (tallyAt (sCell j c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot j) (.remote (Dev.tc n : Thread nD τ) (vSlot j) (.dma (sS j)) hsc) (.dma (vS j)) hsrc hdst hsem) k) Q) := by
  rw [sHas_eq, vHas_eq]
  iintro ⟨Hi1, Hi2, ⟨%f, %hf, Hs⟩, ⟨%g, %hg, Hv⟩, Hrest⟩
  iapply (wp_send_pts m j c κ₁ κ₂ n hn f hf g W O)
  isplitl [Hi1]; · iexact Hi1
  isplitl [Hi2]; · iexact Hi2
  isplitl [Hs]; · iexact Hs
  isplitl [Hv]; · iexact Hv
  iexact Hrest

/-! ## The slots of a whole buffer -/

omit [FloatOps F] in
/-- Two slots have no element in common. -/
theorem slot_disjoint {i j : Fin 3} (h : i ≠ j) : Disjoint (slotR i).set (slotR j).set :=
  Rect.unit_disjoint 0 (by
    have h' : i.val ≠ j.val := fun e => h (Fin.ext e)
    show i.val + 1 ≤ j.val ∨ j.val + 1 ≤ i.val
    omega)

omit [FloatOps F] in
/-- The three slots are the whole buffer. -/
theorem slot_cover : (Finset.univ : Finset S3x96x1024.Idx) = Finset.univ.biUnion fun j : Fin 3 => (slotR j).set := by
  ext y
  simp only [Finset.mem_univ, Finset.mem_biUnion, true_and, true_iff]
  refine ⟨⟨(y 0).val, (y 0).isLt⟩, Rect.mem_set_unit.mpr fun a => ?_⟩
  fin_cases a
  · exact ⟨le_refl _, Nat.lt_succ_self _⟩
  · exact ⟨Nat.zero_le _, by have := (y 1).isLt; show (y 1).val < 0 + _; rw [Nat.zero_add]; exact this⟩
  · exact ⟨Nat.zero_le _, by have := (y 2).isLt; show (y 2).val < 0 + _; rw [Nat.zero_add]; exact this⟩

omit [FloatOps F] in
/-- Three things, one by one. -/
theorem fin3 (Φ : Fin 3 → sProp 𝕄) : bigSep Finset.univ Φ = iprop(Φ 0 ∗ Φ 1 ∗ Φ 2) :=
  bigSep_univ_eq_bigSepL [0, 1, 2] (by decide) (by decide) Φ

/-- The elements of slot `j` of the send buffer. -/
abbrev sElts (c : Dev nD) (j : Fin 3) : Finset (Idx ((c : Thread nD τ).loc cc0_scratch0)) := ((sM : Memref sig .tc .vmem S3x96x1024 .bf16).access (slotR j)).set

omit [FloatOps F] in
/-- The send slots of a device have no element in common. -/
theorem sElts_disjoint (c : Dev nD) : ∀ i ∈ (Finset.univ : Finset (Fin 3)), ∀ j ∈ (Finset.univ : Finset (Fin 3)), i ≠ j → Disjoint (sElts c i) (sElts c j) := by
  intro i _ j _ h
  have h1 : sElts c i = (slotR i).set := View.set_slice_whole _ _
  have h2 : sElts c j = (slotR j).set := View.set_slice_whole _ _
  rw [h1, h2]; exact slot_disjoint h

omit [FloatOps F] in
/-- Together they are the send buffer. -/
theorem sElts_cover (c : Dev nD) : (Finset.univ : Finset (Fin 3)).biUnion (sElts c) = Finset.univ := by
  have h : sElts c = fun j => (slotR j).set := funext fun j => View.set_slice_whole _ _
  rw [h]; exact slot_cover.symm

omit [FloatOps F] in
/-- Owning the send buffer is owning its three slots. -/
theorem sWhole (c : Dev nD) (f : Buf (Elt F) ((c : Thread nD τ).loc cc0_scratch0)) :
    (((c : Thread nD τ).loc cc0_scratch0) ↦{fullShare} f : sProp 𝕄) = ((c : Thread nD τ).loc cc0_scratch0) ↦[(Finset.univ : Finset (Fin 3)).biUnion (sElts c)]{fullShare} f := by
  rw [sElts_cover]

omit [FloatOps F] in
/-- The whole send buffer is its three slots; -/
theorem sSlots_split (c : Dev nD) (f : Buf (Elt F) ((c : Thread nD τ).loc cc0_scratch0)) : (((c : Thread nD τ).loc cc0_scratch0) ↦{fullShare} f : sProp 𝕄)
    ⊢ iprop((∃ X, sHas (F := F) 0 c X) ∗ (∃ X, sHas 1 c X) ∗ ∃ X, sHas 2 c X) := by
  have one (j : Fin 3) : (((c : Thread nD τ).loc cc0_scratch0) ↦[sElts c j]{fullShare} f : sProp 𝕄) ⊢ iprop(∃ X, sHas (F := F) j c X) := by
    unfold sHas
    iintro H
    iexists _, f
    isplitr; · ipureintro; rfl
    iexact H
  rw [sWhole, pointsTo_biUnion Finset.univ _ (sElts_disjoint c), fin3]
  exact BI.sep_mono (one 0) (BI.sep_mono (one 1) (one 2))

omit [FloatOps F] in
/-- the three slots are the whole send buffer again. -/
theorem sSlots_join (c : Dev nD) : iprop((∃ X, sHas (F := F) 0 c X) ∗ (∃ X, sHas 1 c X) ∗ ∃ X, sHas 2 c X)
    ⊢ (iprop(∃ f : Buf (Elt F) ((c : Thread nD τ).loc cc0_scratch0), ((c : Thread nD τ).loc cc0_scratch0) ↦{fullShare} f) : sProp 𝕄) := by
  have one (j : Fin 3) : iprop(∃ X, sHas (F := F) j c X) ⊢ (iprop(∃ f, ((c : Thread nD τ).loc cc0_scratch0) ↦[sElts c j]{fullShare} f) : sProp 𝕄) := by
    unfold sHas
    iintro ⟨%X, %f, %hf, H⟩
    iexists f
    iexact H
  iintro ⟨H0, H1, H2⟩
  ihave H0 := (one 0) $$ H0
  ihave H1 := (one 1) $$ H1
  ihave H2 := (one 2) $$ H2
  icases H0 with ⟨%f0, H0⟩
  icases H1 with ⟨%f1, H1⟩
  icases H2 with ⟨%f2, H2⟩
  ihave H := ((Entails.of_eq (fin3 (fun j : Fin 3 => (((c : Thread nD τ).loc cc0_scratch0) ↦[sElts c j]{fullShare} (Fin.cons f0 (Fin.cons f1 (Fin.cons f2 finZeroElim)) : Fin 3 → Buf (Elt F) ((c : Thread nD τ).loc cc0_scratch0)) j : sProp 𝕄))).symm).trans
    (pointsTo_biUnion_join Finset.univ (sElts c) _ f0 (sElts_disjoint c))) $$ [H0 H1 H2]
  · isplitl [H0]; · iexact H0
    isplitl [H1]; · iexact H1
    iexact H2
  icases H with ⟨%g, %hg, H⟩
  iexists g
  rw [sWhole]
  iexact H

/-- The elements of slot `j` of the receive buffer. -/
abbrev vElts (c : Dev nD) (j : Fin 3) : Finset (Idx ((c : Thread nD τ).loc cc0_scratch1)) := ((vM : Memref sig .tc .vmem S3x96x1024 .bf16).access (slotR j)).set

omit [FloatOps F] in
/-- The receive slots of a device have no element in common. -/
theorem vElts_disjoint (c : Dev nD) : ∀ i ∈ (Finset.univ : Finset (Fin 3)), ∀ j ∈ (Finset.univ : Finset (Fin 3)), i ≠ j → Disjoint (vElts c i) (vElts c j) := by
  intro i _ j _ h
  have h1 : vElts c i = (slotR i).set := View.set_slice_whole _ _
  have h2 : vElts c j = (slotR j).set := View.set_slice_whole _ _
  rw [h1, h2]; exact slot_disjoint h

omit [FloatOps F] in
/-- Together they are the receive buffer. -/
theorem vElts_cover (c : Dev nD) : (Finset.univ : Finset (Fin 3)).biUnion (vElts c) = Finset.univ := by
  have h : vElts c = fun j => (slotR j).set := funext fun j => View.set_slice_whole _ _
  rw [h]; exact slot_cover.symm

omit [FloatOps F] in
/-- Owning the receive buffer is owning its three slots. -/
theorem vWhole (c : Dev nD) (f : Buf (Elt F) ((c : Thread nD τ).loc cc0_scratch1)) :
    (((c : Thread nD τ).loc cc0_scratch1) ↦{fullShare} f : sProp 𝕄) = ((c : Thread nD τ).loc cc0_scratch1) ↦[(Finset.univ : Finset (Fin 3)).biUnion (vElts c)]{fullShare} f := by
  rw [vElts_cover]

omit [FloatOps F] in
/-- The whole receive buffer is its three slots; -/
theorem vSlots_split (c : Dev nD) (f : Buf (Elt F) ((c : Thread nD τ).loc cc0_scratch1)) : (((c : Thread nD τ).loc cc0_scratch1) ↦{fullShare} f : sProp 𝕄)
    ⊢ iprop((∃ X, vHas (F := F) 0 c X) ∗ (∃ X, vHas 1 c X) ∗ ∃ X, vHas 2 c X) := by
  have one (j : Fin 3) : (((c : Thread nD τ).loc cc0_scratch1) ↦[vElts c j]{fullShare} f : sProp 𝕄) ⊢ iprop(∃ X, vHas (F := F) j c X) := by
    unfold vHas
    iintro H
    iexists _, f
    isplitr; · ipureintro; rfl
    iexact H
  rw [vWhole, pointsTo_biUnion Finset.univ _ (vElts_disjoint c), fin3]
  exact BI.sep_mono (one 0) (BI.sep_mono (one 1) (one 2))

omit [FloatOps F] in
/-- the three slots are the whole receive buffer again. -/
theorem vSlots_join (c : Dev nD) : iprop((∃ X, vHas (F := F) 0 c X) ∗ (∃ X, vHas 1 c X) ∗ ∃ X, vHas 2 c X)
    ⊢ (iprop(∃ f : Buf (Elt F) ((c : Thread nD τ).loc cc0_scratch1), ((c : Thread nD τ).loc cc0_scratch1) ↦{fullShare} f) : sProp 𝕄) := by
  have one (j : Fin 3) : iprop(∃ X, vHas (F := F) j c X) ⊢ (iprop(∃ f, ((c : Thread nD τ).loc cc0_scratch1) ↦[vElts c j]{fullShare} f) : sProp 𝕄) := by
    unfold vHas
    iintro ⟨%X, %f, %hf, H⟩
    iexists f
    iexact H
  iintro ⟨H0, H1, H2⟩
  ihave H0 := (one 0) $$ H0
  ihave H1 := (one 1) $$ H1
  ihave H2 := (one 2) $$ H2
  icases H0 with ⟨%f0, H0⟩
  icases H1 with ⟨%f1, H1⟩
  icases H2 with ⟨%f2, H2⟩
  ihave H := ((Entails.of_eq (fin3 (fun j : Fin 3 => (((c : Thread nD τ).loc cc0_scratch1) ↦[vElts c j]{fullShare} (Fin.cons f0 (Fin.cons f1 (Fin.cons f2 finZeroElim)) : Fin 3 → Buf (Elt F) ((c : Thread nD τ).loc cc0_scratch1)) j : sProp 𝕄))).symm).trans
    (pointsTo_biUnion_join Finset.univ (vElts c) _ f0 (vElts_disjoint c))) $$ [H0 H1 H2]
  · isplitl [H0]; · iexact H0
    isplitl [H1]; · iexact H1
    iexact H2
  icases H with ⟨%g, %hg, H⟩
  iexists g
  rw [vWhole]
  iexact H

/-! ## The semaphore steps -/

/-- The signal to the device `src j c` whose slot `j` is coming: it hands over `c`'s receive slot `j`. -/
theorem wp_signal_bar (κ : ℕ) (n : Dev nD) (hn : n = src j c) (X : FVec F S1x96x1024 .bf16) (W : Waits sig Unit) (O : CellTallies nD τ sig Unit)
    {α : Type} {Q : α → sProp 𝕄} {k : PUnit → Prog (TpuEff nD τ sig (Elt F) Λ₀ .tc) α} :
    iprop(cellInv ER (rd m) κ (barCell (src j c)) ∗ owes (c : Thread nD τ) (O + tallyAt (barCell (src j c)) () 1) W
        ∗ dutyTok ER (barCell (src j c)) 0 j ∗ reached ER (barCell (src j c)) 0 ∗ vHas j c X ∗ reached ER (vCell j c) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toInt.toNat) k) Q) := by
  subst hn
  iintro ⟨#Hi, HO, Ht, #Hr, Hv, #Hrv⟩
  iapply (Rounds.wp_signal 𝒱₀ ER (rd m) (c : Thread nD τ) none (dst := (src j c : Thread nD τ)) (κ := κ)
      (d := j) (by rw [duties_bar]; exact Finset.mem_univ _) ((amount_bar m (src j c) j).trans (by decide)) () O rfl)
    $$ [HO Ht Hv]
  isplitr; · iexact Hi
  isplitl [HO]; · iexact HO
  isplitl [Ht]; · iexact Ht
  isplitl [Hv]
  · rw [payload_bar]; unfold barPay; rw [dst_src]
    isplitl [Hv]; · iexists X; iexact Hv
    iexact Hrv
  iexact Hr

/-- The wait for the three units at its own barrier cell: the three receive slots to send into; the cell is then closed. -/
theorem wp_wait_bar (κ : ℕ) (W : Waits sig Unit)
    {α : Type} {Q : α → sProp 𝕄} {k : PUnit → Prog (TpuEff nD τ sig (Elt F) Λ₀ .tc) α} :
    iprop(cellInv ER (rd m) κ (barCell c) ∗ cred (tallyAt (barCell c) () 3) ∗ owes (c : Thread nD τ) (O₁ c) W ∗ levAts L lv ∗ atPos ER (barCell c) 0 ∅ 0)
      ⊢ iprop(((owes (c : Thread nD τ) (O₁ c) (insert (SemLoc.reg barS, ()) W) ∗ semVal (barCell c) 0 ∗ barPay (F := F) 0 c ∗ barPay 1 c ∗ barPay 2 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toInt.toNat) k) Q) := by
  iintro ⟨#Hi, Hc, HO, #Hlev, Hat⟩ Hk
  iapply (Rounds.wp_wait_rest_token 𝒱₀ ER (rd m) (c : Thread nD τ) none (κ := κ)
      (wpE_semWait_eq 𝒱₀ (c : Thread nD τ) none Set.univ) (Set.mem_univ _) () (O := O₁ c) (W := W) (R := 0) (m := 0) (T := ∅)
      (by rw [expect_bar]; decide)) $$ [Hc HO Hat]
  · isplitr; · iexact Hi
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (rd m) (Set.mem_univ κ) (fun h => h) (R := 0 + 1) (duties_later m (barCell c))) $$ [Hat] with Hz
  · isplitr; · iexact Hi
    iexact Hat
  iapply Hk
  isplitl [HO]; · iexact HO
  isplitl [Hz]; · iexact Hz
  iexact Hp

/-- The wait at its receive cell `j`, nothing owed: the receive slot `j` holding what `src j c` packed; the cell is then closed. -/
theorem wp_wait_v (κ : ℕ) (W : Waits sig Unit)
    {hs : (sSlot j : Memref sig .tc .vmem S96x1024 .bf16).view.WordExact} {hd : (vSlot j : Memref sig .tc .vmem S96x1024 .bf16).view.WordExact}
    {α : Type} {Q : α → sProp 𝕄} {k : PUnit → Prog (TpuEff nD τ sig (Elt F) Λ₀ .tc) α} :
    iprop(cellInv ER (rd m) κ (vCell j c) ∗ cred (tallyAt (vCell j c) () N) ∗ owes (c : Thread nD τ) 0 W ∗ atPos ER (vCell j c) 0 ∅ 0)
      ⊢ iprop(((owes (c : Thread nD τ) 0 (insert (SemLoc.dma (vS j), ()) W) ∗ semVal (vCell j c) 0 ∗ vHas j c (sent m j (src j c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (vS j) (sSlot j) (vSlot j) hs hd) k) Q) := by
  iintro ⟨#Hi, Hc, HO, Hat⟩ Hk
  iapply (Rounds.wp_wait_rest_token 𝒱₀ ER (rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_v, credit_v])) $$ [Hc HO Hat]
  · isplitr; · iexact Hi
    isplitl [Hc]; · rw [credit_v]; iexact Hc
    isplitl [HO]; · iexact HO
    isplitr; · rw [MayWait_zero]; iempintro
    iexact Hat
  iintro ⟨HO, Hat, -, Hpay⟩
  ihave Hp := (Entails.of_eq (rest_v m j c)) $$ Hpay
  imod (Rounds.cell_close ER (rd m) (Set.mem_univ κ) (fun h => h) (R := 0 + 1) (duties_later m (vCell j c))) $$ [Hat] with Hz
  · isplitr; · iexact Hi
    iexact Hat
  iapply Hk
  isplitl [HO]; · iexact HO
  isplitl [Hz]; · iexact Hz
  unfold vPay; iexact Hp

/-- The wait at its send cell `j`: the send slot back; the cell is then closed. -/
theorem wp_wait_s (κ : ℕ) (W : Waits sig Unit)
    {hs : (vSlot j : Memref sig .tc .vmem S96x1024 .bf16).view.WordExact} {hd : (sSlot j : Memref sig .tc .vmem S96x1024 .bf16).view.WordExact}
    {α : Type} {Q : α → sProp 𝕄} {k : PUnit → Prog (TpuEff nD τ sig (Elt F) Λ₀ .tc) α} :
    iprop(cellInv ER (rd m) κ (sCell j c) ∗ cred (tallyAt (sCell j c) () N) ∗ owes (c : Thread nD τ) 0 W ∗ atPos ER (sCell j c) 0 ∅ 0)
      ⊢ iprop(((owes (c : Thread nD τ) 0 (insert (SemLoc.dma (sS j), ()) W) ∗ semVal (sCell j c) 0 ∗ sHas j c (sent m j c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sS j) (vSlot j) (sSlot j) hs hd) k) Q) := by
  iintro ⟨#Hi, Hc, HO, Hat⟩ Hk
  iapply (Rounds.wp_wait_rest_token 𝒱₀ ER (rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_s, credit_s])) $$ [Hc HO Hat]
  · isplitr; · iexact Hi
    isplitl [Hc]; · rw [credit_s]; iexact Hc
    isplitl [HO]; · iexact HO
    isplitr; · rw [MayWait_zero]; iempintro
    iexact Hat
  iintro ⟨HO, Hat, -, Hpay⟩
  ihave Hp := (Entails.of_eq (rest_s m j c)) $$ Hpay
  imod (Rounds.cell_close ER (rd m) (Set.mem_univ κ) (fun h => h) (R := 0 + 1) (duties_later m (sCell j c))) $$ [Hat] with Hz
  · isplitr; · iexact Hi
    iexact Hat
  iapply Hk
  isplitl [HO]; · iexact HO
  isplitl [Hz]; · iexact Hz
  unfold sPay; iexact Hp

end Cert.KernelIdeal.Run

end
-- ==== Proof.KernelIdealBody.lean ====
/- One device's run of the kernel body, from its share of the protocol's start to the result `outAt`. -/
module

public import proofs.«01_k».proof.Proof.KernelIdealSteps

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kernel runs one grid step. -/
theorem cfg0_N : cfg0.N = 1 := by decide
def t₀ : Fin cfg0.N := ⟨0, by rw [cfg0_N]; decide⟩
/-- So every grid step is that one. -/
theorem fin_N (t : Fin cfg0.N) : t = t₀ := by
  obtain ⟨t, ht⟩ := t; have := cfg0_N; exact Fin.ext (by simp only [t₀]; omega)

/-- The invariants device `c` opens: of its own seven cells, of the three barrier cells it signals, of the three receive
    cells it sends to. -/
def invs (K : Dev nD × Fin 7 → ℕ) (c : Dev nD) : sProp 𝕄 :=
  iprop(cellInv ER (rd m) (K (c, 0)) (barCell c)
    ∗ cellInv ER (rd m) (K (c, 1)) (sCell 0 c)
    ∗ cellInv ER (rd m) (K (c, 2)) (sCell 1 c)
    ∗ cellInv ER (rd m) (K (c, 3)) (sCell 2 c)
    ∗ cellInv ER (rd m) (K (c, 4)) (vCell 0 c)
    ∗ cellInv ER (rd m) (K (c, 5)) (vCell 1 c)
    ∗ cellInv ER (rd m) (K (c, 6)) (vCell 2 c)
    ∗ cellInv ER (rd m) (K (src 0 c, 0)) (barCell (src 0 c))
    ∗ cellInv ER (rd m) (K (src 1 c, 0)) (barCell (src 1 c))
    ∗ cellInv ER (rd m) (K (src 2 c, 0)) (barCell (src 2 c))
    ∗ cellInv ER (rd m) (K (dst 0 c, 4)) (vCell 0 (dst 0 c))
    ∗ cellInv ER (rd m) (K (dst 1 c, 5)) (vCell 1 (dst 1 c))
    ∗ cellInv ER (rd m) (K (dst 2 c, 6)) (vCell 2 (dst 2 c)))

instance invs_persistent (K : Dev nD × Fin 7 → ℕ) (c : Dev nD) : BI.Persistent (invs m K c) := by unfold invs; infer_instance

/-- Its positions at round 0 of its own seven cells. -/
def ats (c : Dev nD) : sProp 𝕄 :=
  iprop(atPos ER (barCell c) 0 ∅ 0 ∗ atPos ER (sCell 0 c) 0 ∅ 0 ∗ atPos ER (sCell 1 c) 0 ∅ 0 ∗ atPos ER (sCell 2 c) 0 ∅ 0
    ∗ atPos ER (vCell 0 c) 0 ∅ 0 ∗ atPos ER (vCell 1 c) 0 ∅ 0 ∗ atPos ER (vCell 2 c) 0 ∅ 0)

/-- The cells it knows to be at round 0: the barrier cells it signals, its own send and receive cells. -/
def marks (c : Dev nD) : sProp 𝕄 :=
  iprop(reached ER (barCell (src 0 c)) 0 ∗ reached ER (barCell (src 1 c)) 0 ∗ reached ER (barCell (src 2 c)) 0
    ∗ reached ER (sCell 0 c) 0 ∗ reached ER (sCell 1 c) 0 ∗ reached ER (sCell 2 c) 0
    ∗ reached ER (vCell 0 c) 0 ∗ reached ER (vCell 1 c) 0 ∗ reached ER (vCell 2 c) 0)

instance marks_persistent (c : Dev nD) : BI.Persistent (marks (F := F) c) := by unfold marks; infer_instance

/-- The duties it pays: one at each barrier it signals, one at each receive cell it sends to, its own send cells'. -/
def payToks (c : Dev nD) : sProp 𝕄 :=
  iprop((dutyTok ER (barCell (src 0 c)) 0 0 ∗ dutyTok ER (barCell (src 1 c)) 0 1 ∗ dutyTok ER (barCell (src 2 c)) 0 2)
    ∗ (dutyTok ER (vCell 0 (dst 0 c)) 0 0 ∗ dutyTok ER (vCell 1 (dst 1 c)) 0 0 ∗ dutyTok ER (vCell 2 (dst 2 c)) 0 0)
    ∗ (dutyTok ER (sCell 0 c) 0 0 ∗ dutyTok ER (sCell 1 c) 0 0 ∗ dutyTok ER (sCell 2 c) 0 0))

/-- The protocol state device `c` starts from. -/
def ghost (K : Dev nD × Fin 7 → ℕ) (c : Dev nD) : sProp 𝕄 := iprop(invs m K c ∗ marks c ∗ ats c ∗ payToks c)

/-- Its credit: three barrier units, a block on each receive cell. -/
def credits (c : Dev nD) : sProp 𝕄 :=
  iprop(cred (tallyAt (barCell c) () 3) ∗ cred (tallyAt (vCell 0 c) () N) ∗ cred (tallyAt (vCell 1 c) () N) ∗ cred (tallyAt (vCell 2 c) () N))

def start (c : Dev nD) : sProp 𝕄 := iprop((∃ K, ghost m K c) ∗ credits c ∗ levAts L lv)

/-- Its six slots, at whatever contents. -/
def slots (c : Dev nD) : sProp 𝕄 :=
  iprop(((∃ X, sHas (F := F) 0 c X) ∗ (∃ X, sHas 1 c X) ∗ ∃ X, sHas 2 c X) ∗ ((∃ X, vHas (F := F) 0 c X) ∗ (∃ X, vHas 1 c X) ∗ ∃ X, vHas 2 c X))

/-- Its seven counters at zero. -/
def zeros (c : Dev nD) : sProp 𝕄 :=
  iprop(semVal (barCell c) 0 ∗ (semVal (sCell 0 c) 0 ∗ semVal (sCell 1 c) 0 ∗ semVal (sCell 2 c) 0) ∗ (semVal (vCell 0 c) 0 ∗ semVal (vCell 1 c) 0 ∗ semVal (vCell 2 c) 0))

def Φ₀ (c : Dev nD) : sProp 𝕄 := iprop(start m c ∗ slots c)
def Φ₁ (c : Dev nD) : sProp 𝕄 := iprop(slots (F := F) c ∗ zeros c)

def dats (ρ : Dev nD → PrngReg) (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => rwstg m c
    | ⟨2, _⟩ => ixstg m c
    | ⟨3, _⟩ => ewstg m c
    | ⟨4, _⟩ => swstg m c
    | ⟨5, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- Every argument is fetched. -/
theorem fetch_in (w : Fin 6) (h : w ≠ 5) (t : Fin cfg0.N) : (cfg0.win w).fetch t = true := by
  rw [fin_N t]; fin_cases w <;> first | rfl | exact absurd rfl h

omit [FloatOps F] in
/-- Owning a whole buffer by its view is owning it. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 7 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Writing the whole result buffer leaves what was written. -/
theorem write_out (f w : (cc0_stg5_0 : Ref sig .tc).ty.Contents (Elt F)) :
    ((oM : Memref sig .tc .vmem S256x1024 .f32).access (Rect.unit (s := S256x1024) ![0, 0] S256x1024.size inb_S256x1024_S256x1024_0_0) : View sig .tc _ _ _).write (Elt F) f w Finset.univ = w :=
  Memref.write_access_unit_zero_univ (Elt F) cc0_stg5_0 (funext fun a => by fin_cases a <;> rfl) _ f w

/-- What the body runs from: the protocol state, the slots, what is owed, the five staged inputs, the result's staging buffer. -/
def bodyPre (c : Dev nD) (W : Waits sig Unit) : sProp 𝕄 :=
  iprop(ghost m K c ∗ credits c ∗ levAts L lv ∗ slots c ∗ owes (c : Thread nD τ) (O₀ c) W
    ∗ (((c : Thread nD τ).loc cc0_stg0_0) ↦{fullShare} xstg m c) ∗ (((c : Thread nD τ).loc cc0_stg1_0) ↦{fullShare} rwstg m c)
    ∗ (((c : Thread nD τ).loc cc0_stg2_0) ↦{fullShare} ixstg m c) ∗ (((c : Thread nD τ).loc cc0_stg3_0) ↦{fullShare} ewstg m c)
    ∗ (((c : Thread nD τ).loc cc0_stg4_0) ↦{fullShare} swstg m c) ∗ (∃ f, ((c : Thread nD τ).loc cc0_stg5_0) ↦{fullShare} f))

/-- What it leaves: the slots, the counters at zero, nothing owed, the inputs as they were, the result. -/
def bodyPost (c : Dev nD) : sProp 𝕄 :=
  iprop(slots (F := F) c ∗ zeros c ∗ (∃ W, owes (c : Thread nD τ) 0 W)
    ∗ (((c : Thread nD τ).loc cc0_stg0_0) ↦{fullShare} xstg m c) ∗ (((c : Thread nD τ).loc cc0_stg1_0) ↦{fullShare} rwstg m c)
    ∗ (((c : Thread nD τ).loc cc0_stg2_0) ↦{fullShare} ixstg m c) ∗ (((c : Thread nD τ).loc cc0_stg3_0) ↦{fullShare} ewstg m c)
    ∗ (((c : Thread nD τ).loc cc0_stg4_0) ↦{fullShare} swstg m c) ∗ (((c : Thread nD τ).loc cc0_stg5_0) ↦{fullShare} outAt m c))

abbrev body : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3

set_option maxHeartbeats 4000000 in
/-- The body, one rule per effect in program order. -/
theorem sound_body (c : Dev nD) (W : Waits sig Unit) (Kt : PUnit → sProp 𝕄) :
    iprop(bodyPre m K c W ∗ (bodyPost m c -∗ Kt ⟨⟩))
      ⊢ wp frame (wpE (defs₀ (F := F)) 𝒱₀ c none) Set.univ (body (F := F)) Kt := by
  unfold body
  simp only [cc0_body_eq_skeleton]; unfold cc0_body_skel
  simp only [k0_part15_eq_skeleton]; unfold k0_part15_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel
  simp only [semSignalWord, semWaitWord, Prog.lift, Prog.bind_op, Prog.bind_ret, Prog.pure_eq_ret, wp_deviceId]
  unfold bodyPre ghost invs marks ats payToks credits slots
  iintro ⟨⟨⟨⟨#HIB, #HIS0, #HIS1, #HIS2, #HIV0, #HIV1, #HIV2, #HIB0, #HIB1, #HIB2, #HID0, #HID1, #HID2⟩, ⟨#HrB0, #HrB1, #HrB2, #HrS0, #HrS1, #HrS2, #HrV0, #HrV1, #HrV2⟩,
      ⟨HaB, HaS0, HaS1, HaS2, HaV0, HaV1, HaV2⟩, ⟨HtB0, HtB1, HtB2⟩, ⟨HtV0, HtV1, HtV2⟩, ⟨HtS0, HtS1, HtS2⟩⟩,
    ⟨HcB, HcV0, HcV1, HcV2⟩, #Hlev, ⟨⟨⟨%S0, Hs0⟩, ⟨%S1, Hs1⟩, ⟨%S2, Hs2⟩⟩, ⟨⟨%V0, Hv0⟩, ⟨%V1, Hv1⟩, ⟨%V2, Hv2⟩⟩⟩, HO, Hx, Hrw, Hix, Hew, Hsw, ⟨%o, Ho⟩⟩, Hk⟩
  unfold O₀
  iapply (wp_signal_bar m 2 c (K (src 2 c, 0)) _ (dev1_eq c) V2 W (OB₂ c)) $$ [HO HtB2 Hv2]
  · isplitr; · iexact HIB2
    isplitl [HO]; · iexact HO
    isplitl [HtB2]; · iexact HtB2
    isplitr; · iexact HrB2
    isplitl [Hv2]; · iexact Hv2
    iexact HrV2
  iintro HO
  unfold OB₂
  iapply (wp_signal_bar m 0 c (K (src 0 c, 0)) _ (dev2_eq c) V0 W (OB₃ c)) $$ [HO HtB0 Hv0]
  · isplitr; · iexact HIB0
    isplitl [HO]; · iexact HO
    isplitl [HtB0]; · iexact HtB0
    isplitr; · iexact HrB0
    isplitl [Hv0]; · iexact Hv0
    iexact HrV0
  iintro HO
  unfold OB₃
  iapply (wp_signal_bar m 1 c (K (src 1 c, 0)) _ (dev3_eq c) V1 W (O₁ c)) $$ [HO HtB1 Hv1]
  · isplitr; · iexact HIB1
    isplitl [HO]; · iexact HO
    isplitl [HtB1]; · iexact HtB1
    isplitr; · iexact HrB1
    isplitl [Hv1]; · iexact Hv1
    iexact HrV1
  iintro HO
  iapply (wp_wait_bar m c (K (c, 0)) W) $$ [HcB HO HaB]
  · isplitr; · iexact HIB
    isplitl [HcB]; · iexact HcB
    isplitl [HO]; · iexact HO
    isplitr; · iexact Hlev
    iexact HaB
  iintro ⟨HO, HzB, Hp0, Hp1, Hp2⟩
  unfold barPay
  icases Hp0 with ⟨⟨%Y0, Hd0⟩, #HrD0⟩
  icases Hp1 with ⟨⟨%Y1, Hd1⟩, #HrD1⟩
  icases Hp2 with ⟨⟨%Y2, Hd2⟩, #HrD2⟩
  iapply (wp_load 𝒱₀ (c : Thread nD τ) none Set.univ (m := ewM) (Finset.subset_univ _)) $$ Hew; iintro Hew
  iapply (wp_load 𝒱₀ (c : Thread nD τ) none Set.univ (m := ixM) (Finset.subset_univ _)) $$ Hix; iintro Hix
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hrw; iintro Hrw
  iapply (wp_load 𝒱₀ (c : Thread nD τ) none Set.univ (m := ixM) (Finset.subset_univ _)) $$ Hix; iintro Hix
  iapply (wp_load_s 0 c) $$ Hs0; iintro Hs0
  iapply (wp_store_s 0 c (Y := sent m 0 c)) $$ Hs0; iintro Hs0
  unfold O₁
  iapply (wp_send_slot m 0 c (K (c, 1)) (K (dst 0 c, 4)) _ (dev4_eq c) Y0 (insert (SemLoc.reg barS, ()) W) (O₂ c)) $$ [Hs0 Hd0 HO HtS0 HtV0]
  · isplitr; · iexact HIS0
    isplitr; · iexact HID0
    isplitl [Hs0]; · iexact Hs0
    isplitl [Hd0]; · iexact Hd0
    isplitl [HO]; · iexact HO
    isplitl [HtS0]; · iexact HtS0
    isplitr; · iexact HrS0
    isplitl [HtV0]; · iexact HtV0
    iexact HrD0
  iintro ⟨HcS0, HO⟩
  iapply (wp_load 𝒱₀ (c : Thread nD τ) none Set.univ (m := ixM) (Finset.subset_univ _)) $$ Hix; iintro Hix
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hrw; iintro Hrw
  iapply (wp_load 𝒱₀ (c : Thread nD τ) none Set.univ (m := ixM) (Finset.subset_univ _)) $$ Hix; iintro Hix
  iapply (wp_load_s 1 c) $$ Hs1; iintro Hs1
  iapply (wp_store_s 1 c (Y := sent m 1 c)) $$ Hs1; iintro Hs1
  unfold O₂
  iapply (wp_send_slot m 1 c (K (c, 2)) (K (dst 1 c, 5)) _ (dev5_eq c) Y1 (insert (SemLoc.reg barS, ()) W) (O₃ c)) $$ [Hs1 Hd1 HO HtS1 HtV1]
  · isplitr; · iexact HIS1
    isplitr; · iexact HID1
    isplitl [Hs1]; · iexact Hs1
    isplitl [Hd1]; · iexact Hd1
    isplitl [HO]; · iexact HO
    isplitl [HtS1]; · iexact HtS1
    isplitr; · iexact HrS1
    isplitl [HtV1]; · iexact HtV1
    iexact HrD1
  iintro ⟨HcS1, HO⟩
  iapply (wp_load 𝒱₀ (c : Thread nD τ) none Set.univ (m := ixM) (Finset.subset_univ _)) $$ Hix; iintro Hix
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hrw; iintro Hrw
  iapply (wp_load 𝒱₀ (c : Thread nD τ) none Set.univ (m := ixM) (Finset.subset_univ _)) $$ Hix; iintro Hix
  iapply (wp_load_s 2 c) $$ Hs2; iintro Hs2
  iapply (wp_store_s 2 c (Y := sent m 2 c)) $$ Hs2; iintro Hs2
  rw [show O₃ c = 0 + tallyAt (vCell 2 (dst 2 c)) () N from (zero_add _).symm]
  iapply (wp_send_slot m 2 c (K (c, 3)) (K (dst 2 c, 6)) _ (dev6_eq c) Y2 (insert (SemLoc.reg barS, ()) W) (0)) $$ [Hs2 Hd2 HO HtS2 HtV2]
  · isplitr; · iexact HIS2
    isplitr; · iexact HID2
    isplitl [Hs2]; · iexact Hs2
    isplitl [Hd2]; · iexact Hd2
    isplitl [HO]; · iexact HO
    isplitl [HtS2]; · iexact HtS2
    isplitr; · iexact HrS2
    isplitl [HtV2]; · iexact HtV2
    iexact HrD2
  iintro ⟨HcS2, HO⟩
  iapply (wp_load 𝒱₀ (c : Thread nD τ) none Set.univ (m := ixM) (Finset.subset_univ _)) $$ Hix; iintro Hix
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hrw; iintro Hrw
  iapply (wp_load 𝒱₀ (c : Thread nD τ) none Set.univ (m := ixM) (Finset.subset_univ _)) $$ Hix; iintro Hix
  iapply (wp_load 𝒱₀ (c : Thread nD τ) none Set.univ (m := ixM) (Finset.subset_univ _)) $$ Hix; iintro Hix
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  iapply (wp_wait_v m 0 c (K (c, 4)) (insert (SemLoc.reg barS, ()) W)) $$ [HcV0 HO HaV0]
  · isplitr; · iexact HIV0
    isplitl [HcV0]; · iexact HcV0
    isplitl [HO]; · iexact HO
    iexact HaV0
  iintro ⟨HO, HzV0, Hv0⟩
  iapply (wp_load 𝒱₀ (c : Thread nD τ) none Set.univ (m := ixM) (Finset.subset_univ _)) $$ Hix; iintro Hix
  iapply (wp_load_v 0 c) $$ Hv0; iintro Hv0
  iapply (wp_wait_v m 1 c (K (c, 5)) (insert (SemLoc.dma (vS 0), ()) (insert (SemLoc.reg barS, ()) W))) $$ [HcV1 HO HaV1]
  · isplitr; · iexact HIV1
    isplitl [HcV1]; · iexact HcV1
    isplitl [HO]; · iexact HO
    iexact HaV1
  iintro ⟨HO, HzV1, Hv1⟩
  iapply (wp_load 𝒱₀ (c : Thread nD τ) none Set.univ (m := ixM) (Finset.subset_univ _)) $$ Hix; iintro Hix
  iapply (wp_load_v 1 c) $$ Hv1; iintro Hv1
  iapply (wp_wait_v m 2 c (K (c, 6)) (insert (SemLoc.dma (vS 1), ()) (insert (SemLoc.dma (vS 0), ()) (insert (SemLoc.reg barS, ()) W)))) $$ [HcV2 HO HaV2]
  · isplitr; · iexact HIV2
    isplitl [HcV2]; · iexact HcV2
    isplitl [HO]; · iexact HO
    iexact HaV2
  iintro ⟨HO, HzV2, Hv2⟩
  iapply (wp_load 𝒱₀ (c : Thread nD τ) none Set.univ (m := ixM) (Finset.subset_univ _)) $$ Hix; iintro Hix
  iapply (wp_load_v 2 c) $$ Hv2; iintro Hv2
  iapply (wp_load 𝒱₀ (c : Thread nD τ) none Set.univ (m := oM) (Finset.subset_univ _)) $$ Ho; iintro Ho
  iapply (wp_store 𝒱₀ (c : Thread nD τ) none Set.univ (m := oM) (r := Rect.unit (s := S256x1024) ![0, 0] S256x1024.size inb_S256x1024_S256x1024_0_0) (Mk := Finset.univ) (Finset.subset_univ _)) $$ Ho; iintro Ho
  rw [write_out]
  iapply (wp_wait_s m 0 c (K (c, 1)) (insert (SemLoc.dma (vS 2), ()) (insert (SemLoc.dma (vS 1), ()) (insert (SemLoc.dma (vS 0), ()) (insert (SemLoc.reg barS, ()) W))))) $$ [HcS0 HO HaS0]
  · isplitr; · iexact HIS0
    isplitl [HcS0]; · iexact HcS0
    isplitl [HO]; · iexact HO
    iexact HaS0
  iintro ⟨HO, HzS0, Hs0⟩
  iapply (wp_wait_s m 1 c (K (c, 2)) (insert (SemLoc.dma (sS 0), ()) (insert (SemLoc.dma (vS 2), ()) (insert (SemLoc.dma (vS 1), ()) (insert (SemLoc.dma (vS 0), ()) (insert (SemLoc.reg barS, ()) W)))))) $$ [HcS1 HO HaS1]
  · isplitr; · iexact HIS1
    isplitl [HcS1]; · iexact HcS1
    isplitl [HO]; · iexact HO
    iexact HaS1
  iintro ⟨HO, HzS1, Hs1⟩
  iapply (wp_wait_s m 2 c (K (c, 3)) (insert (SemLoc.dma (sS 1), ()) (insert (SemLoc.dma (sS 0), ()) (insert (SemLoc.dma (vS 2), ()) (insert (SemLoc.dma (vS 1), ()) (insert (SemLoc.dma (vS 0), ()) (insert (SemLoc.reg barS, ()) W))))))) $$ [HcS2 HO HaS2]
  · isplitr; · iexact HIS2
    isplitl [HcS2]; · iexact HcS2
    isplitl [HO]; · iexact HO
    iexact HaS2
  iintro ⟨HO, HzS2, Hs2⟩
  rw [wp_ret]; imodintro
  iapply Hk
  unfold bodyPost slots zeros
  isplitl [Hs0 Hs1 Hs2 Hv0 Hv1 Hv2]
  · isplitl [Hs0 Hs1 Hs2]
    · isplitl [Hs0]; · iexists _; iexact Hs0
      isplitl [Hs1]; · iexists _; iexact Hs1
      iexists _; iexact Hs2
    · isplitl [Hv0]; · iexists _; iexact Hv0
      isplitl [Hv1]; · iexists _; iexact Hv1
      iexists _; iexact Hv2
  isplitl [HzB HzS0 HzS1 HzS2 HzV0 HzV1 HzV2]
  · isplitl [HzB]; · iexact HzB
    isplitl [HzS0 HzS1 HzS2]
    · isplitl [HzS0]; · iexact HzS0
      isplitl [HzS1] <;> iassumption
    · isplitl [HzV0]; · iexact HzV0
      isplitl [HzV1] <;> iassumption
  isplitl [HO]; · iexists _; iexact HO
  isplitl [Hx]; · iexact Hx
  isplitl [Hrw]; · iexact Hrw
  isplitl [Hix]; · iexact Hix
  isplitl [Hew]; · iexact Hew
  isplitl [Hsw]; · iexact Hsw
  iexact Ho

variable (ρ : Dev nD → PrngReg)

def oblPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def oblPost (c : Dev nD) : sProp 𝕄 :=
  iprop(Φ₁ (F := F) c ∗ (dats m ρ 0 c).owesAt () t₀.succ
    ∗ stg c cc0_stg0_0 (xstg m c) ∗ stg c cc0_stg1_0 (rwstg m c) ∗ stg c cc0_stg2_0 (ixstg m c) ∗ stg c cc0_stg3_0 (ewstg m c) ∗ stg c cc0_stg4_0 (swstg m c)
    ∗ stg c cc0_stg5_0 (outAt m c))

/-- The body from the obligation's precondition to its postcondition. -/
theorem obl (c : Dev nD) : oblPre m ρ c ⊢ wp frame (wpE (defs₀ (F := F)) 𝒱₀ c none) Set.univ (body (F := F)) (fun _ => oblPost m ρ c) := by
  unfold oblPre Φ₀ start Dat.owesAt Pipeline.owesWithin
  iintro ⟨⟨⟨⟨%K, Hg⟩, Hc, Hlev⟩, Hslots⟩, ⟨%W, %hW, HO⟩, ⟨%d0, %g0, %hg0, Hx⟩, ⟨%d1, %g1, %hg1, Hrw⟩, ⟨%d2, %g2, %hg2, Hix⟩, ⟨%d3, %g3, %hg3, Hew⟩, ⟨%d4, %g4, %hg4, Hsw⟩, ⟨%d5, %g5, %hg5, Ho⟩⟩
  have h0 : g0 = xstg m c := by rw [hg0]; unfold Dat.before; rw [if_pos (fetch_in 0 (by decide) t₀)]; rfl
  subst h0
  have h1 : g1 = rwstg m c := by rw [hg1]; unfold Dat.before; rw [if_pos (fetch_in 1 (by decide) t₀)]; rfl
  subst h1
  have h2 : g2 = ixstg m c := by rw [hg2]; unfold Dat.before; rw [if_pos (fetch_in 2 (by decide) t₀)]; rfl
  subst h2
  have h3 : g3 = ewstg m c := by rw [hg3]; unfold Dat.before; rw [if_pos (fetch_in 3 (by decide) t₀)]; rfl
  subst h3
  have h4 : g4 = swstg m c := by rw [hg4]; unfold Dat.before; rw [if_pos (fetch_in 4 (by decide) t₀)]; rfl
  subst h4
  rw [show (dats m ρ 0 c).owed t₀.castSucc = O₀ c from rfl]
  iapply (sound_body m K c W fun _ => oblPost m ρ c)
  isplitr []
  · unfold bodyPre
    isplitl [Hg]; · iexact Hg
    isplitl [Hc]; · iexact Hc
    isplitl [Hlev]; · iexact Hlev
    isplitl [Hslots]; · iexact Hslots
    isplitl [HO]; · iexact HO
    isplitl [Hx]; · iexact Hx
    isplitl [Hrw]; · iexact Hrw
    isplitl [Hix]; · iexact Hix
    isplitl [Hew]; · iexact Hew
    isplitl [Hsw]; · iexact Hsw
    iexists _; iexact Ho
  unfold bodyPost oblPost Φ₁ Dat.owesAt Pipeline.owesWithin
  iintro ⟨Hslots, Hz, ⟨%W', HO⟩, Hx, Hrw, Hix, Hew, Hsw, Ho⟩
  rw [show (dats m ρ 0 c).owed t₀.succ = 0 from rfl]
  isplitl [Hslots Hz]
  · isplitl [Hslots] <;> iassumption
  isplitl [HO]
  · iexists W'
    isplitr; · ipureintro; exact fun _ _ => Or.inl trivial
    iexact HO
  isplitl [Hx]
  · iexists _; isplitr; · (ipureintro; rfl)
    iexact Hx
  isplitl [Hrw]
  · iexists _; isplitr; · (ipureintro; rfl)
    iexact Hrw
  isplitl [Hix]
  · iexists _; isplitr; · (ipureintro; rfl)
    iexact Hix
  isplitl [Hew]
  · iexists _; isplitr; · (ipureintro; rfl)
    iexact Hew
  isplitl [Hsw]
  · iexists _; isplitr; · (ipureintro; rfl)
    iexact Hsw
  iexists _; isplitr; · (ipureintro; rfl)
  iexact Ho

/-- The launch's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact obl m ρ c

end Body

end Cert.KernelIdeal.Run

end
-- ==== Proof.KernelIdealRun.lean ====
/- The launch of the four devices and their run: every weakly fair execution ends, with the result of each device at
   `outAt`, the inputs unchanged and every counter at zero. -/
module

public import proofs.«01_k».proof.Proof.Gen.KernelIdeal.Points
public import Idealize.ShloMosaic.Lib.Pipeline.CollectiveSegs
public import proofs.«01_k».proof.Proof.KernelIdealBody

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

omit [FloatOps F] in
/-- Seven and nine things, one by one. -/
theorem fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The six transfer semaphores are the call's own. -/
theorem ownSemFacts : Pipeline.OwnSemFacts cfg0.spec osem := by decide

/-- Every window is held in full. -/
theorem share_eq (c : Dev nD) (w : Fin cfg0.W) : (dats m ρ 0 c).share w = fullShare := by unfold Dat.share; split <;> rfl

/-- Different devices and places give different cells. -/
theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duty tokens of a device's own cells: its three barrier duties, its send duties, its receive duties. -/
abbrev ownTok : Fin 9 → Fin 7 × Fin 3 := ![(0, 0), (0, 1), (0, 2), (1, 0), (2, 0), (3, 0), (4, 0), (5, 0), (6, 0)]
abbrev tokOf (cj : Dev nD × Fin 9) : GSem nD τ sig × ℕ × Fin 3 := (kcell (cj.1, (ownTok cj.2).1), 0, (ownTok cj.2).2)
/-- Different devices and places give different duties. -/
theorem ownTok_injective : Function.Injective ownTok := by decide
theorem tokOf_injective : Function.Injective (tokOf : Dev nD × Fin 9 → GSem nD τ sig × ℕ × Fin 3) := by
  rintro ⟨c, j⟩ ⟨c', j'⟩ h
  have h1 : (c, (ownTok j).1) = (c', (ownTok j').1) := kcell_injective (congrArg Prod.fst h)
  have h2 : (ownTok j).2 = (ownTok j').2 := congrArg (fun x : GSem nD τ sig × ℕ × Fin 3 => x.2.2) h
  have h3 : j = j' := ownTok_injective (Prod.ext (congrArg Prod.snd h1) h2)
  have h4 : c = c' := by have := congrArg Prod.fst h1; exact this
  exact Prod.ext h4 h3
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The duty tokens of device `c`'s own cells. -/
def toks (c : Dev nD) : sProp 𝕄 :=
  iprop(dutyTok ER (barCell c) 0 0
    ∗ dutyTok ER (barCell c) 0 1
    ∗ dutyTok ER (barCell c) 0 2
    ∗ dutyTok ER (sCell 0 c) 0 0
    ∗ dutyTok ER (sCell 1 c) 0 0
    ∗ dutyTok ER (sCell 2 c) 0 0
    ∗ dutyTok ER (vCell 0 c) 0 0
    ∗ dutyTok ER (vCell 1 c) 0 0
    ∗ dutyTok ER (vCell 2 c) 0 0)

/-- What the launch deals device `c`: its cells' rounds, its positions with their marks, its tokens. -/
def G (c : Dev nD) : sProp 𝕄 :=
  iprop((bigSep Finset.univ fun k : Fin 7 => roundState ER (rd m) (kcell (c, k)) 0)
    ∗ (bigSep Finset.univ fun k : Fin 7 => iprop(atPos ER (kcell (c, k)) 0 ∅ 0 ∗ reached ER (kcell (c, k)) 0)) ∗ toks c)

/-- What the devices make of it together. -/
def G' (c : Dev nD) : sProp 𝕄 := iprop(∃ K, ghost m K c)

/-- The ghost state of all cells is set up. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [fin9]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores are the send and receive semaphores; -/
theorem ownSems0_eq (c : Dev nD) : (Pipeline.ownSems0 (Ix := Unit) (Name := ℕ) (U := UU) (Lvl := ℕ) (Val := Elt F) (τ := τ) osem c : sProp 𝕄)
    = iprop(semVal (sCell 0 c) 0 ∗ semVal (sCell 1 c) 0 ∗ semVal (sCell 2 c) 0 ∗ semVal (vCell 0 c) 0 ∗ semVal (vCell 1 c) 0 ∗ semVal (vCell 2 c) 0) := by
  rw [Pipeline.ownSems0_eq_of_list c osem [0, 1, 2, 3, 4, 5] (by decide) (by decide)]; rfl
omit [FloatOps F] in
/-- the barrier semaphore is the one the launch keeps. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores, one by one. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, fin7]
  iintro ⟨HS, HB⟩
  isplitl [HB]; · iexact HB
  iexact HS

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants and marks of all cells. -/
def records (K : Dev nD × Fin 7 → ℕ) : sProp 𝕄 :=
  iprop((bigSep Finset.univ fun ck : Dev nD × Fin 7 => cellInv ER (rd m) (K ck) (kcell ck))
    ∗ bigSep Finset.univ fun ck : Dev nD × Fin 7 => reached ER (kcell ck) 0)

instance records_persistent (K : Dev nD × Fin 7 → ℕ) : BI.Persistent (records m K) := by unfold records; infer_instance

/-- The records hold each cell's invariant. -/
theorem inv_at (K : Dev nD × Fin 7 → ℕ) (ck : Dev nD × Fin 7) :
    (bigSep Finset.univ fun ck : Dev nD × Fin 7 => (cellInv ER (rd m) (K ck) (kcell ck) : sProp 𝕄)) ⊢ cellInv ER (rd m) (K ck) (kcell ck) :=
  bigSep_elim (Finset.mem_univ ck)
omit [FloatOps F] in
/-- And that each cell has reached its first round. -/
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`. -/
def linear (c : Dev nD) : sProp 𝕄 := iprop(ats c ∗ payToks c)

/-- A device's ghost state out of the records and its own tokens. -/
theorem ghost_intro (K : Dev nD × Fin 7 → ℕ) (c : Dev nD) : iprop(records m K ∗ linear c) ⊢ G' m c := by
  unfold records linear G' ghost invs marks
  iintro ⟨⟨#HI, #HR⟩, Hats, Htoks⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (src 0 c, 0)); iexact HI
    isplitr; · iapply (inv_at m K (src 1 c, 0)); iexact HI
    isplitr; · iapply (inv_at m K (src 2 c, 0)); iexact HI
    isplitr; · iapply (inv_at m K (dst 0 c, 4)); iexact HI
    isplitr; · iapply (inv_at m K (dst 1 c, 5)); iexact HI
    iapply (inv_at m K (dst 2 c, 6)); iexact HI
  isplitr
  · isplitr; · iapply (reached_at (F := F) (src 0 c, 0)); iexact HR
    isplitr; · iapply (reached_at (F := F) (src 1 c, 0)); iexact HR
    isplitr; · iapply (reached_at (F := F) (src 2 c, 0)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  isplitl [Hats] <;> iassumption

omit [FloatOps F] in
/-- The tokens dealt around: a barrier's duty `j` to the device that slot `j` comes from, a receive duty to its sender. -/
theorem toks_around : (bigSep Finset.univ fun c : Dev nD => (toks c : sProp 𝕄)) ⊢ bigSep Finset.univ fun c : Dev nD => payToks c := by
  unfold toks payToks
  simp only [bigSep_sep']
  rw [bigSep_univ_equiv (around 0).symm (fun c : Dev nD => (dutyTok ER (barCell c) 0 0 : sProp 𝕄)),
    bigSep_univ_equiv (around 1).symm (fun c : Dev nD => (dutyTok ER (barCell c) 0 1 : sProp 𝕄)),
    bigSep_univ_equiv (around 2).symm (fun c : Dev nD => (dutyTok ER (barCell c) 0 2 : sProp 𝕄)),
    bigSep_univ_equiv (around 0) (fun c : Dev nD => (dutyTok ER (vCell 0 c) 0 0 : sProp 𝕄)),
    bigSep_univ_equiv (around 1) (fun c : Dev nD => (dutyTok ER (vCell 1 c) 0 0 : sProp 𝕄)),
    bigSep_univ_equiv (around 2) (fun c : Dev nD => (dutyTok ER (vCell 2 c) 0 0 : sProp 𝕄))]
  iintro ⟨H1, H2, H3, H4, H5, H6, H7, H8, H9⟩
  isplitl [H1 H2 H3]
  · isplitl [H1]; · iexact H1
    isplitl [H2]; · iexact H2
    iexact H3
  isplitl [H7 H8 H9]
  · isplitl [H7]; · iexact H7
    isplitl [H8]; · iexact H8
    iexact H9
  isplitl [H4]; · iexact H4
  isplitl [H5]; · iexact H5
  iexact H6

omit [FloatOps F] in
/-- What can be copied goes to every member of a product. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The duties' tokens go from the cells to the devices that pay them. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd m) κ (kcell ck) : sProp 𝕄))) $$ HI
  icases HK with ⟨%K, #HI⟩
  ihave Htk := (toks_around (F := F)) $$ Htok
  iapply (share_out (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear ats; rw [fin7])))
    isplitl [Hat]; · iexact Hat
    iexact Htk

/-- The devices' semaphores become the protocol's cells, all at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A cell tells its device. -/
theorem bar_inj {a b : Dev nD} (h : barCell a = barCell b) : a = b := congrArg (fun g : GSem nD τ sig => g.1.1) h
theorem v_inj {i j : Fin 3} {a b : Dev nD} (h : vCell i a = vCell j b) : a = b := congrArg (fun g : GSem nD τ sig => g.1.1) h

/-- A signal to `src j d` is a unit for `c`'s barrier cell exactly when `d` is `dst j c`; -/
theorem unit_bar (j : Fin 3) (d c : Dev nD) : (tallyAt (barCell (src j d)) () 1 : CellTallies nD τ sig Unit) (barCell c) () = if d = dst j c then 1 else 0 := by
  rw [tallyAt_apply]
  by_cases h : d = dst j c
  · subst h; rw [src_dst, if_pos ⟨rfl, rfl⟩, if_pos rfl]
  · rw [if_neg (fun ⟨h1, _⟩ => h (by rw [bar_inj h1, dst_src])), if_neg h]
/-- What is owed to one cell is not owed to another. -/
theorem unit_v (j k : Fin 3) (d c : Dev nD) : (tallyAt (barCell d) () 1 : CellTallies nD τ sig Unit) (vCell k c) () = 0 := by
  rw [tallyAt_apply, if_neg fun h => v_ne_bar k (congrArg Prod.snd h.1)]
/-- a transfer of slot `j` to `dst j d` is a block for `c`'s receive cell `j` exactly when `d` is `src j c`. -/
theorem block_v (j : Fin 3) (d c : Dev nD) : (tallyAt (vCell j (dst j d)) () N : CellTallies nD τ sig Unit) (vCell j c) () = if d = src j c then N else 0 := by
  rw [tallyAt_apply]
  by_cases h : d = src j c
  · subst h; rw [dst_src, if_pos ⟨rfl, rfl⟩, if_pos rfl]
  · rw [if_neg (fun ⟨h1, _⟩ => h (by rw [v_inj h1, src_dst])), if_neg h]
theorem vS_inj : ∀ i j : Fin 3, (SemLoc.dma (vS i) : SemLoc sig) = .dma (vS j) → i = j := by decide
theorem block_v_ne {j k : Fin 3} (h : k ≠ j) (d c : Dev nD) : (tallyAt (vCell j d) () N : CellTallies nD τ sig Unit) (vCell k c) () = 0 := by
  rw [tallyAt_apply, if_neg fun h' => h (vS_inj k j (congrArg Prod.snd h'.1))]
theorem block_bar (j : Fin 3) (d c : Dev nD) : (tallyAt (vCell j d) () N : CellTallies nD τ sig Unit) (barCell c) () = 0 := by
  rw [tallyAt_apply, if_neg fun h => v_ne_bar j (congrArg Prod.snd h.1).symm]

/-- What device `d` owes each cell of device `c` at the start. -/
theorem owed_bar (d c : Dev nD) : O₀ d (barCell c) () = (if d = dst 1 c then 1 else 0) + (if d = dst 0 c then 1 else 0) + (if d = dst 2 c then 1 else 0) := by
  unfold O₀ OB₂ OB₃ O₁ O₂ O₃
  simp only [Pi.add_apply, Finsupp.add_apply]
  rw [block_bar, block_bar, block_bar, unit_bar, unit_bar, unit_bar]; omega
theorem owed_v (j : Fin 3) (d c : Dev nD) : O₀ d (vCell j c) () = if d = src j c then N else 0 := by
  unfold O₀ OB₂ OB₃ O₁ O₂ O₃
  simp only [Pi.add_apply, Finsupp.add_apply]
  rw [unit_v j j, unit_v j j, unit_v j j]
  match j with
  | 0 => rw [block_v, block_v_ne (by decide), block_v_ne (by decide)]; omega
  | 1 => rw [block_v, block_v_ne (by decide), block_v_ne (by decide)]; omega
  | 2 => rw [block_v, block_v_ne (by decide), block_v_ne (by decide)]; omega

/-- Over all the devices three units are owed to each barrier, and one block to each receive cell. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (dst 1 c) fun _ => 1, Finset.sum_ite_eq' Finset.univ (dst 0 c) fun _ => 1, Finset.sum_ite_eq' Finset.univ (dst 2 c) fun _ => 1,
    if_pos (Finset.mem_univ _), if_pos (Finset.mem_univ _), if_pos (Finset.mem_univ _)]
theorem launch_v (j : Fin 3) (c : Dev nD) :
    tallyOn (vCell j c) (launchCredit (Pipeline.owing O₀) 0 (vCell j c)) = (tallyAt (vCell j c) () N : CellTallies nD τ sig Unit) := by
  unfold tallyAt; refine congrArg _ (Finsupp.ext fun u => ?_); cases u
  rw [Pipeline.launchCredit_owing, Finsupp.single_eq_same, Finset.sum_congr rfl fun d _ => owed_v j d c, Finset.sum_ite_eq' Finset.univ (src j c) fun _ => N,
    if_pos (Finset.mem_univ _)]

omit [FloatOps F] in
/-- One member of a product, taken out. -/
theorem take_out {s : Finset (SemLoc sig)} {i : SemLoc sig} (h : i ∈ s) {Φ : SemLoc sig → sProp 𝕄} : bigSep s Φ = iprop(Φ i ∗ bigSep (s.erase i) Φ) :=
  BI.bigSep_erase h

omit [FloatOps F] in
/-- The launch's credit for device `c` holds what its waits spend. -/
theorem creds (c : Dev nD) : (Pipeline.launchCred O₀ c : sProp 𝕄) ⊢ credits c := by
  unfold Pipeline.launchCred credits
  rw [← launch_bar, ← launch_v, ← launch_v, ← launch_v,
    bigSep_univ_at _ (SemLoc.reg barS)]
  refine sep_mono_right ?_
  rw [take_out (s := Finset.univ.erase (SemLoc.reg barS)) (i := SemLoc.dma (vS 0)) (by decide)]
  refine sep_mono_right ?_
  rw [take_out (i := SemLoc.dma (vS 1)) (by decide)]
  exact sep_mono_right (bigSep_elim (by decide : SemLoc.dma (vS 2) ∈ _))

/-! ## The launch's side conditions -/

/-- What a device starts with is what the launch gives it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The body's precondition at the start. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ slots
  iintro ⟨Hs, -, ⟨%f, Hf⟩, ⟨%g, Hg⟩⟩
  isplitl [Hs]; · iexact Hs
  isplitl [Hf]; · iapply (sSlots_split c f); iexact Hf
  iapply (vSlots_split c g); iexact Hg

/-- What the body leaves gives back everything scoped. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ slots zeros
  iintro ⟨⟨Hs, Hv⟩, HzB, ⟨HzS0, HzS1, HzS2⟩, HzV⟩
  isplitl [HzB]; · iexact HzB
  isplitl [HzS0 HzS1 HzS2 HzV]
  · isplitl [HzS0]; · iexact HzS0
    isplitl [HzS1]; · iexact HzS1
    isplitl [HzS2]; · iexact HzS2
    iexact HzV
  isplitl [Hs]; · iapply (sSlots_join c); iexact Hs
  iapply (vSlots_join c); iexact Hv

/-- The semaphores of the staging buffers lie at level 0. -/
theorem lv_staging (c : Dev nD) : ∀ q : Fin 12, q.val < 6 → lv ((c : Thread nD τ), .dma q) () = 0 := fun q hq => by
  have h1 : (SemLoc.dma q : SemLoc sig) ≠ .reg barS := fun h => by cases h
  have h2 : ∀ q : Fin 12, q.val < 6 → ¬ ((SemLoc.dma q : SemLoc sig) = .dma (vS 0) ∨ (SemLoc.dma q : SemLoc sig) = .dma (vS 1) ∨ (SemLoc.dma q : SemLoc sig) = .dma (vS 2)) := by decide
  dsimp only [lv]; rw [if_neg h1, if_neg (h2 q hq)]

/-- The fetches' waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_staging c _ (by fin_cases w <;> fin_cases s <;> decide)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the four devices ends, each
    window's array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays after the run hold what they held. -/
theorem finalA_in (c : Dev nD) (w : Fin 6) (h : w ≠ 5) : finalA m ρ c w = m ((cfg0.win w).arr.view.loc (c : Thread nD τ)) := by
  have hd : (cfg0.win w).isOut = false := by fin_cases w <;> first | rfl | exact absurd rfl h
  exact (dats (F := F) m ρ 0 c).arrAt_in w hd _

/-- The result's array after the run holds `outAt`. -/
theorem finalA_out (c : Dev nD) : finalA m ρ c (5 : Fin 6) = outAt m c := by
  have hw : ((cfg0.win (5 : Fin 6)).blk t₀).view.read (Elt F) ((dats m ρ 0 c).arrAt (5 : Fin 6) cfg0.N) = outAt m c := by
    rw [show cfg0.N = t₀.val + 1 from rfl, (dats m ρ 0 c).arrAt_succ (5 : Fin 6) t₀, flush0_5, if_pos rfl]
    exact View.read_write_univ _ _
  have hr (f : Buf (Elt F) ((cfg0.win (5 : Fin 6)).arr.view.loc (c : Thread nD τ))) : ((cfg0.win (5 : Fin 6)).blk t₀).view.read (Elt F) f = f :=
    Memref.read_access_unit_zero (Elt F) main_v1 (show (fun a => (win0_5.index t₀) a * main_v1.ty.shape.size a) = fun _ => 0 from
      funext fun a => by fin_cases a <;> decide) (fun a => by fin_cases a <;> decide) f
  exact (hr _).symm.trans hw

end Cert.KernelIdeal.Run

end
-- ==== Proof.Dispatch.lean ====
/-
  The arithmetic behind a dispatch by ranks, over extended reals and with no program in sight: a token that goes to a
  device is the device's first, second, third … by the number of such tokens up to it; a row of the 0/1 matrix built from
  these ranks picks one token; a softmax's weights are between nought and infinity, so they may be drawn out of a sum.
-/
module

public import Idealize.ShloMosaic.Lib.Pointwise

@[expose] public section

noncomputable section

namespace Cert.Dispatch

open Idealize.ShloMosaic

/-! ## Bits as numbers -/

/-- A one-bit word widened and read as a number is 1 or 0. -/
theorem bit_val (b : BitVec 1) : FloatOps.sitofp (F := Ideal) .f32 (BitVec.setWidth 32 b) = (if b = 1#1 then (1 : EReal) else 0) := by
  show (((BitVec.setWidth 32 b).toInt : ℝ) : EReal) = _
  rcases BitVec.eq_zero_or_eq_one b with rfl | rfl
  · rw [if_neg (by decide), show (BitVec.setWidth 32 0#1).toInt = 0 by decide]; simp
  · rw [if_pos rfl, show (BitVec.setWidth 32 1#1).toInt = 1 by decide]; simp

/-- A small number as a word, read signed, is itself. -/
theorem toInt_small (n : ℕ) (h : n < 2147483648) : (BitVec.ofNat 32 n).toInt = n := by
  rw [BitVec.toInt_eq_toNat_of_lt (by rw [BitVec.toNat_ofNat]; omega), BitVec.toNat_ofNat, Nat.mod_eq_of_lt (by omega)]

/-- A small number as a word, as a float value, is itself. -/
theorem nat_val (n : ℕ) (h : n < 2147483648) : FloatOps.sitofp (F := Ideal) .f32 (BitVec.ofNat 32 n) = ((n : ℝ) : EReal) := by
  show (((BitVec.ofNat 32 n).toInt : ℝ) : EReal) = _
  rw [toInt_small n h]; simp

/-- Signed comparison of two small words is that of the numbers. -/
theorem sle_iff (a b : ℕ) (ha : a < 2147483648) (hb : b < 2147483648) :
    IntOp.cmpi .sle (BitVec.ofNat 32 a) (BitVec.ofNat 32 b) = 1#1 ↔ a ≤ b := by
  have h : IntOp.cmpi .sle (BitVec.ofNat 32 a) (BitVec.ofNat 32 b) = BitVec.ofBool ((BitVec.ofNat 32 a).sle (BitVec.ofNat 32 b)) := rfl
  rw [h, BitVec.sle, toInt_small a ha, toInt_small b hb]
  by_cases hh : a ≤ b <;> simp [hh]

/-- The same, the other way round. -/
theorem sge_iff (a b : ℕ) (ha : a < 2147483648) (hb : b < 2147483648) :
    IntOp.cmpi .sge (BitVec.ofNat 32 a) (BitVec.ofNat 32 b) = 1#1 ↔ b ≤ a := by
  have h : IntOp.cmpi .sge (BitVec.ofNat 32 a) (BitVec.ofNat 32 b) = BitVec.ofBool ((BitVec.ofNat 32 b).sle (BitVec.ofNat 32 a)) := rfl
  rw [h, BitVec.sle, toInt_small a ha, toInt_small b hb]
  by_cases hh : b ≤ a <;> simp [hh]

/-- Whether the word `e` is one of the four from `first` on. -/
def among (first e : BitVec 32) : BitVec 1 := IntOp.andi (IntOp.cmpi .sge e first) (IntOp.cmpi .slt e (Scalar.addi first 4#32))

/-- Expert `e` is one of the four of device `d`, for `e` below 16, just when `e / 4 = d`. -/
theorem among_iff (d e : ℕ) (hd : d < 4) (he : e < 16) : among (BitVec.ofNat 32 (4 * d)) (BitVec.ofNat 32 e) = 1#1 ↔ e / 4 = d := by
  interval_cases d <;> interval_cases e <;> decide

/-! ## Ranks -/

/-- How many indices up to and including `t` have the property `P`. -/
def rank {n : ℕ} (P : Fin n → Prop) [DecidablePred P] (t : Fin n) : ℕ := (Finset.univ.filter fun u => P u ∧ u ≤ t).card

section Rank
variable {n : ℕ} (P : Fin n → Prop) [DecidablePred P]

/-- One with the property has at least rank 1. -/
theorem rank_pos (t : Fin n) (h : P t) : 0 < rank P t := Finset.card_pos.2 ⟨t, by simp [h]⟩

/-- No rank exceeds the number of those with the property. -/
theorem rank_le (t : Fin n) : rank P t ≤ (Finset.univ.filter fun u => P u).card :=
  Finset.card_le_card fun u hu => by simp only [Finset.mem_filter, Finset.mem_univ, true_and] at hu ⊢; exact hu.1

/-- A later one with the property has a greater rank. -/
theorem rank_lt (t u : Fin n) (h : P u) (htu : t < u) : rank P t < rank P u := by
  refine Finset.card_lt_card ⟨fun v hv => ?_, fun hs => ?_⟩
  · simp only [Finset.mem_filter, Finset.mem_univ, true_and] at hv ⊢
    exact ⟨hv.1, hv.2.trans htu.le⟩
  · have := hs (show u ∈ Finset.univ.filter fun v => P v ∧ v ≤ u by simp [h])
    simp only [Finset.mem_filter, Finset.mem_univ, true_and] at this
    exact absurd this.2 (not_le.2 htu)

/-- Two with the property and of one rank are the same. -/
theorem rank_inj (t u : Fin n) (ht : P t) (hu : P u) (h : rank P t = rank P u) : t = u := by
  rcases lt_trichotomy t u with hl | he | hl
  · exact absurd h (rank_lt P t u hu hl).ne
  · exact he
  · exact absurd h (rank_lt P u t ht hl).ne'

end Rank

/-- A sum of ones over the indices with a property is their number. -/
theorem sum_ones {ι : Type} (S : Finset ι) (P : ι → Prop) [DecidablePred P] :
    ∑ x ∈ S, (if P x then (1 : EReal) else 0) = (((S.filter P).card : ℝ) : EReal) := by
  classical
  induction S using Finset.induction_on with
  | empty => simp
  | insert a S ha ih =>
    rw [Finset.sum_insert ha, ih, Finset.filter_insert]
    by_cases h : P a
    · rw [if_pos h, if_pos h, Finset.card_insert_of_notMem (fun hm => ha (Finset.mem_filter.1 hm).1)]
      rw [Nat.cast_add, EReal.coe_add, add_comm, Nat.cast_one, EReal.coe_one]
    · rw [if_neg h, if_neg h, zero_add]

/-- The sum of products of two 0/1 numbers is the number of indices where both are 1. -/
theorem sum_ones_mul {n : ℕ} (P Q : Fin n → Prop) [DecidablePred P] [DecidablePred Q] :
    ∑ x : Fin n, (if P x then (1 : EReal) else 0) * (if Q x then (1 : EReal) else 0)
      = (((Finset.univ.filter fun x => P x ∧ Q x).card : ℝ) : EReal) := by
  rw [← sum_ones]
  refine Finset.sum_congr rfl fun x _ => ?_
  by_cases hP : P x <;> by_cases hQ : Q x <;> simp [hP, hQ]

/-- The rank of a token as the kernel counts it, mask times triangle. -/
theorem rank_sum (b : Fin 256 → BitVec 1) (t : Fin 256) :
    ∑ x : Fin 256, FloatOps.sitofp (F := Ideal) .f32 (BitVec.setWidth 32 (b x))
        * FloatOps.sitofp (F := Ideal) .f32 (BitVec.setWidth 32 (IntOp.cmpi .sle (BitVec.ofNat 32 x.val) (BitVec.ofNat 32 t.val)))
      = ((rank (fun u => b u = 1#1) t : ℝ) : EReal) := by
  simp only [bit_val]
  rw [sum_ones_mul]
  simp only [fun x : Fin 256 => sle_iff x.val t.val (by omega) (by omega)]
  rfl

/-- The same, triangle times mask. -/
theorem rank_sum' (b : Fin 256 → BitVec 1) (t : Fin 256) :
    ∑ x : Fin 256, FloatOps.sitofp (F := Ideal) .f32 (BitVec.setWidth 32 (IntOp.cmpi .sge (BitVec.ofNat 32 t.val) (BitVec.ofNat 32 x.val)))
        * FloatOps.sitofp (F := Ideal) .f32 (BitVec.setWidth 32 (b x))
      = ((rank (fun u => b u = 1#1) t : ℝ) : EReal) := by
  simp only [bit_val]
  rw [sum_ones_mul]
  simp only [fun x : Fin 256 => sge_iff t.val x.val (by omega) (by omega)]
  refine congrArg (fun k : ℕ => ((k : ℝ) : EReal)) (congrArg Finset.card (Finset.filter_congr fun u _ => ?_))
  exact and_comm

/-- The bit "rank `k` is one above row `i`, and `b`". -/
theorem slot_bit (k i : ℕ) (hi : i < 96) (b : BitVec 1) :
    IntOp.andi (BitVec.ofBool (decide (((k : ℝ) : EReal) = FloatOps.sitofp (F := Ideal) .f32 (BitVec.ofNat 32 i) + 1))) b = 1#1
      ↔ k = i + 1 ∧ b = 1#1 := by
  rw [nat_val i (by omega)]
  have e : (((k : ℝ) : EReal) = ((i : ℝ) : EReal) + 1) ↔ k = i + 1 := by
    rw [show ((i : ℝ) : EReal) + 1 = (((i + 1 : ℕ) : ℝ) : EReal) by rw [Nat.cast_add, EReal.coe_add, Nat.cast_one, EReal.coe_one]]
    rw [EReal.coe_eq_coe_iff, Nat.cast_inj]
  by_cases h : k = i + 1
  · rw [decide_eq_true (e.2 h)]
    rcases BitVec.eq_zero_or_eq_one b with rfl | rfl <;> simp [h] <;> decide
  · rw [decide_eq_false (fun hh => h (e.1 hh))]
    rcases BitVec.eq_zero_or_eq_one b with rfl | rfl <;> simp [h] <;> decide

/-- A choice by a bit is a choice by what the bit says. -/
theorem select_iff {α : Type} {c : BitVec 1} {p : Prop} [Decidable p] (h : c = 1#1 ↔ p) (x y : α) :
    Scalar.select c x y = if p then x else y := by
  rcases BitVec.eq_zero_or_eq_one c with rfl | rfl
  · rw [if_neg fun hp => absurd (h.2 hp) (by decide)]; rfl
  · rw [if_pos (h.1 rfl)]; rfl

/-- Equality of words as a bit. -/
theorem eq_iff {w : ℕ} (x y : BitVec w) : IntOp.cmpi .eq x y = 1#1 ↔ x = y := by
  show BitVec.ofBool (x == y) = 1#1 ↔ x = y
  by_cases h : x = y
  · simp [h]
  · rw [beq_eq_false_iff_ne.2 h]; simp [h]

/-! ## Sums with one term -/

/-- The row the token `t` is placed in. -/
def row (k : ℕ) (h : 0 < k ∧ k ≤ 96) : Fin 96 := ⟨k - 1, by omega⟩

/-- Summing over the rows picks the row of `t`, if `t` has one. -/
theorem sum_rows (k : ℕ) (p : Prop) [Decidable p] (v : Fin 96 → EReal) (hk : p → 0 < k ∧ k ≤ 96) :
    ∑ i : Fin 96, (if k = i.val + 1 ∧ p then v i else 0) = if h : p then v (row k (hk h)) else 0 := by
  by_cases h : p
  · rw [dif_pos h, Finset.sum_eq_single (row k (hk h))]
    · have := hk h
      rw [if_pos ⟨show k = k - 1 + 1 by omega, h⟩]
    · intro i _ hi
      rw [if_neg]
      rintro ⟨e, -⟩
      exact hi (Fin.ext (show i.val = k - 1 by omega))
    · intro hh; exact absurd (Finset.mem_univ _) hh
  · rw [dif_neg h]
    exact Finset.sum_eq_zero fun i _ => if_neg fun hh => h hh.2

/-- A nonnegative finite number may be drawn out of a sum. -/
theorem mul_sum {ι : Type} (p : EReal) (h0 : 0 ≤ p) (ht : p ≠ ⊤) (S : Finset ι) (f : ι → EReal) : ∑ a ∈ S, p * f a = p * ∑ a ∈ S, f a := by
  classical
  induction S using Finset.induction_on with
  | empty => simp
  | insert a S ha ih => rw [Finset.sum_insert ha, Finset.sum_insert ha, ih, EReal.left_distrib_of_nonneg_of_ne_top h0 ht]

/-! ## Softmax -/

/-- The greatest of sixteen scores, as both programs take it: from minus infinity up. -/
def top (s : Fin 16 → EReal) : EReal := Finset.univ.fold max (Ideal.ofBits .f32 0xFF800000#32) s

/-- The softmax weight of expert `e`. -/
def soft (s : Fin 16 → EReal) (e : Fin 16) : EReal := Ideal.div (Ideal.exp (s e - top s)) (∑ k, Ideal.exp (s k - top s))

/-- The word of minus infinity. -/
theorem ofBits_neg_inf : Ideal.ofBits .f32 0xFF800000#32 = ⊥ := by simp [Ideal.ofBits, Ideal.ieee]
/-- The word of infinity. -/
theorem ofBits_inf : Ideal.ofBits .f32 0x7F800000#32 = ⊤ := by simp [Ideal.ofBits, Ideal.ieee]

/-- No score exceeds the greatest. -/
theorem le_top_score (s : Fin 16 → EReal) (e : Fin 16) : s e ≤ top s :=
  (Finset.le_fold_max (s e)).2 (Or.inr ⟨e, Finset.mem_univ _, le_rfl⟩)

/-- The greatest score, if above minus infinity, is some expert's. -/
theorem exists_top (s : Fin 16 → EReal) (h : top s ≠ ⊥) : ∃ e, s e = top s := by
  rcases (Finset.le_fold_max (top s)).1 (le_refl (top s)) with hb | ⟨e, -, he⟩
  · exact absurd (le_bot_iff.1 (ofBits_neg_inf ▸ hb)) h
  · exact ⟨e, le_antisymm (le_top_score s e) he⟩

/-- Exponentials are not negative. -/
theorem exp_nonneg (x : EReal) : 0 ≤ Ideal.exp x := by
  induction x using EReal.rec with
  | bot => exact le_rfl
  | top => exact le_top
  | coe r => exact EReal.coe_nonneg.2 (Real.exp_pos r).le

/-- An exponential is infinite only at infinity. -/
theorem exp_ne_top (x : EReal) (h : x ≠ ⊤) : Ideal.exp x ≠ ⊤ := by
  induction x using EReal.rec with
  | bot => exact EReal.zero_ne_top
  | top => exact absurd rfl h
  | coe r => exact EReal.coe_ne_top _

/-- With a finite greatest score every softmax weight is nonnegative and finite. -/
theorem soft_bounds (s : Fin 16 → EReal) (hb : top s ≠ ⊥) (ht : top s ≠ ⊤) (e : Fin 16) : 0 ≤ soft s e ∧ soft s e ≠ ⊤ := by
  have hne (k : Fin 16) : s k - top s ≠ ⊤ := by
    have hle := le_top_score s k
    revert hle
    generalize top s = M at hb ht
    generalize s k = x
    induction M using EReal.rec with
    | bot => exact absurd rfl hb
    | top => exact absurd rfl ht
    | coe r =>
      induction x using EReal.rec with
      | bot => intro _; simp
      | top => intro h; exact absurd (top_le_iff.1 h) (EReal.coe_ne_top r)
      | coe q => intro _; rw [← EReal.coe_sub]; exact EReal.coe_ne_top _
  have hsum0 : (1 : EReal) ≤ ∑ k, Ideal.exp (s k - top s) := by
    obtain ⟨k, hk⟩ := exists_top s hb
    have h1 : Ideal.exp (s k - top s) = 1 := by
      rw [hk]
      generalize top s = M at hb ht
      induction M using EReal.rec with
      | bot => exact absurd rfl hb
      | top => exact absurd rfl ht
      | coe r =>
        rw [← EReal.coe_sub, sub_self]
        show ((Real.exp 0 : ℝ) : EReal) = 1
        rw [Real.exp_zero]; rfl
    rw [← h1]
    exact Finset.single_le_sum (f := fun k => Ideal.exp (s k - top s)) (fun i _ => exp_nonneg _) (Finset.mem_univ k)
  have hpos : (0 : EReal) < ∑ k, Ideal.exp (s k - top s) := lt_of_lt_of_le zero_lt_one hsum0
  unfold soft Ideal.div
  rw [if_neg hpos.ne']
  refine ⟨mul_nonneg (exp_nonneg _) (EReal.inv_nonneg_of_nonneg hpos.le), ?_⟩
  have h1 := exp_ne_top _ (hne e)
  have h2 := exp_nonneg (s e - top s)
  have h3 := (EReal.inv_lt_top (∑ k, Ideal.exp (s k - top s))).ne
  have h4 := EReal.inv_nonneg_of_nonneg hpos.le
  revert h1 h2 h3 h4
  generalize Ideal.exp (s e - top s) = x
  generalize (∑ k, Ideal.exp (s k - top s))⁻¹ = y
  intro h1 h2 h3 h4
  lift x to ℝ using ⟨h1, fun h => by simp [h] at h2⟩
  lift y to ℝ using ⟨h3, fun h => by simp [h] at h4⟩
  rw [← EReal.coe_mul]
  exact EReal.coe_ne_top _

end Cert.Dispatch

end
-- ==== Proof.KernelIdealRead.lean ====
/-
  What the kernel's vector expressions hold at an index, over extended reals: the 0/1 matrix that picks the rows for one
  device, the rows it packs for a chunk, and the sums that put received rows back in their tokens' places.
-/
module

public import proofs.«01_k».proof.Proof.KernelIdealRun
public import proofs.«01_k».proof.Proof.Dispatch

@[expose] public section

set_option maxRecDepth 16384

noncomputable section

namespace Cert.KernelIdeal.Value

open Cert.KernelIdeal Cert.KernelIdeal.Gen Cert.Dispatch Idealize.ShloMosaic

/-- Whether token `u` of a chunk with experts `ic` goes to the device whose first expert is `first`. -/
abbrev goes (first : BitVec 32) (ic : Vec Ideal S256x1 .i32) (u : Fin 256) : BitVec 1 := among first (ic (ix2 u 0))

/-- The router score of token `t` for expert `e`. -/
abbrev score (x : Vec Ideal S256x512 .f32) (rw : Vec Ideal S512x16 .f32) (t : Fin 256) (e : Fin 16) : EReal :=
  ∑ a : Fin 512, x (ix2 t a) * rw (ix2 a e)

/-- The picking matrix: row `i` has a one at the `i+1`-st token that goes to the device. -/
theorem pick_at (w : BitVec 32) (ic : Vec Ideal S256x1 .i32) (i : Fin 96) (t : Fin 256) :
    k0_pay22 w (k0_pay2 (F := Ideal)) ic (ix2 i t)
      = if rank (fun u => goes (Scalar.muli w 4#32) ic u = 1#1) t = i.val + 1 ∧ goes (Scalar.muli w 4#32) ic t = 1#1 then 1 else 0 := by
  pointwise [k0_pay22, k0_pay2]
  have h := rank_sum (goes (Scalar.muli w 4#32) ic) t
  unfold goes among at h
  rw [h]
  exact select_iff (slot_bit _ i.val i.isLt _) _ _

/-- A 96-row matrix times a chunk's tokens. -/
theorem rows_times (g : FVec Ideal S96x256 .f32) (x : Vec Ideal S256x512 .f32) (i : Fin 96) (a : Fin 512) :
    matmul dot_S96x256_S256x512_S96x512_1_0_0_1_n_n none g (shapeCast S256x512 x shapeCasts_S256x512_S256x512 : FVec Ideal S256x512 .f32)
      (constant S96x512 .f32 0x00000000#32) (ix2 i a) = ∑ t : Fin 256, g (ix2 i t) * x (ix2 t a) := by
  pointwise []

/-- The picked tokens. -/
theorem picked_at (w : BitVec 32) (ic : Vec Ideal S256x1 .i32) (x : Vec Ideal S256x512 .f32) (i : Fin 96) (a : Fin 512) :
    k0_pay23 w (k0_pay2 (F := Ideal)) ic x (ix2 i a) = ∑ t : Fin 256, k0_pay22 w (k0_pay2 (F := Ideal)) ic (ix2 i t) * x (ix2 t a) :=
  rows_times _ x i a

/-- The router's scores. -/
theorem score_at (x : Vec Ideal S256x512 .f32) (r : Vec Ideal S512x16 .f32) (t : Fin 256) (e : Fin 16) :
    k0_pay24 x r (ix2 t e) = score x r t e := by
  pointwise [k0_pay24]

/-- The greatest score of a token. -/
theorem top_at (x : Vec Ideal S256x512 .f32) (r : Vec Ideal S512x16 .f32) (t : Fin 256) (e : Fin 16) :
    k0_pay25 x r (ix2 t e) = top (score x r t) := by
  pointwise [k0_pay25, k0_pay24]
  rfl

/-- The device's four expert matrices, one below the other. -/
theorem experts_at (ew : Vec Ideal S4x512x1024 .f32) (j : Fin 4) (a : Fin 512) (h : Fin 1024) (k : Fin 2048) (hk : k.val = 512 * j.val + a.val) :
    k0_pay1 ew (ix2 k h) = ew (ix3 j a h) := by
  pointwise [k0_pay1]
  congr 2
  · exact Fin.ext (show k.val / 512 = j.val by omega)
  · exact Fin.ext (show k.val % 512 = a.val by omega)

/-- A sum over four blocks of 512, block by block. -/
theorem sum_blocks (f : Fin 2048 → EReal) :
    ∑ k : Fin 2048, f k = ∑ j : Fin 4, ∑ a : Fin 512, f ⟨512 * j.val + a.val, by omega⟩ := by
  rw [← Finset.sum_product' (s := Finset.univ) (t := Finset.univ) (f := fun (j : Fin 4) (a : Fin 512) => f ⟨512 * j.val + a.val, by omega⟩)]
  rw [Finset.univ_product_univ]
  refine (Fintype.sum_equiv (finProdFinEquiv (m := 4) (n := 512)) _ _ fun x => ?_).symm
  refine congrArg f (Fin.ext ?_)
  show 512 * x.1.val + x.2.val = x.2.val + 512 * x.1.val
  omega

/-- Of a row of four blocks, each the same row times a number, only one number is not zero: the sum is over its block. -/
theorem sum_one_block (y : Fin 512 → EReal) (c : Fin 4 → EReal) (v : EReal) (j : Fin 4) (f : Fin 2048 → EReal) (h0 : 0 ≤ v) (ht : v ≠ ⊤) (hc : ∀ k, c k = if j = k then v else 0) :
    ∑ x : Fin 2048,
      (if h : x.val < 512 then y ⟨x.val, h⟩ * c 0
        else if h' : x.val - 512 < 512 then y ⟨x.val - 512, h'⟩ * c 1
        else if h'' : x.val - 512 - 512 < 512 then y ⟨x.val - 512 - 512, h''⟩ * c 2
        else y ⟨x.val - 512 - 512 - 512, by omega⟩ * c 3) * f x
      = v * ∑ a : Fin 512, y a * f ⟨512 * j.val + a.val, by omega⟩ := by
  have hx (k : Fin 4) (a : Fin 512) (x : Fin 2048) (e : x.val = 512 * k.val + a.val) :
      (if h : x.val < 512 then y ⟨x.val, h⟩ * c 0
        else if h' : x.val - 512 < 512 then y ⟨x.val - 512, h'⟩ * c 1
        else if h'' : x.val - 512 - 512 < 512 then y ⟨x.val - 512 - 512, h''⟩ * c 2
        else y ⟨x.val - 512 - 512 - 512, by omega⟩ * c 3) = y a * c k := by
    fin_cases k <;> simp only [] at e
    · rw [dif_pos (show x.val < 512 by omega)]
      exact congrArg (fun b => y b * _) (Fin.ext (show x.val = a.val by omega))
    · rw [dif_neg (show ¬ x.val < 512 by omega), dif_pos (show x.val - 512 < 512 by omega)]
      exact congrArg (fun b => y b * _) (Fin.ext (show x.val - 512 = a.val by omega))
    · rw [dif_neg (show ¬ x.val < 512 by omega), dif_neg (show ¬ x.val - 512 < 512 by omega), dif_pos (show x.val - 512 - 512 < 512 by omega)]
      exact congrArg (fun b => y b * _) (Fin.ext (show x.val - 512 - 512 = a.val by omega))
    · rw [dif_neg (show ¬ x.val < 512 by omega), dif_neg (show ¬ x.val - 512 < 512 by omega), dif_neg (show ¬ x.val - 512 - 512 < 512 by omega)]
      exact congrArg (fun b => y b * _) (Fin.ext (show x.val - 512 - 512 - 512 = a.val by omega))
  rw [sum_blocks, Finset.sum_eq_single j]
  · rw [← mul_sum v h0 ht]
    refine Finset.sum_congr rfl fun a _ => ?_
    rw [hx j a _ rfl, hc, if_pos rfl, mul_comm (y a) v, mul_assoc]
  · intro k _ hk
    refine Finset.sum_eq_zero fun a _ => ?_
    rw [hx k a _ rfl, hc, if_neg (Ne.symm hk), mul_zero, zero_mul]
  · intro h; exact absurd (Finset.mem_univ _) h

/-- Expert `4 d + j` is the device's expert number `k` just when `j = k`. -/
theorem expert_word (d : ℕ) (hd : d < 4) (j k : Fin 4) :
    (BitVec.ofNat 32 (4 * d + j.val) = IntOp.addi (BitVec.ofNat 32 k.val) (Scalar.muli (BitVec.ofNat 32 d) 4#32)) ↔ j = k := by
  interval_cases d <;> fin_cases j <;> fin_cases k <;> decide

/-- Choosing by the expert's number among sixteen picks that expert's value. -/
theorem sum_expert (ic : BitVec 32) (e : Fin 16) (he : ic = BitVec.ofNat 32 e.val) (f : Fin 16 → EReal) :
    ∑ k : Fin 16, Scalar.select (IntOp.cmpi .eq ic (BitVec.ofNat 32 k.val)) (f k) 0 = f e := by
  rw [Finset.sum_eq_single e]
  · rw [select_iff (eq_iff _ _), if_pos he]
  · intro k _ hk
    rw [select_iff (eq_iff _ _), if_neg]
    rintro h
    refine hk (Fin.ext ?_)
    have := congrArg BitVec.toNat (h.symm.trans he)
    rw [BitVec.toNat_ofNat, BitVec.toNat_ofNat] at this
    omega
  · intro h; exact absurd (Finset.mem_univ _) h

/-- The packed row of token `t`, whose expert is number `j` of device `d`: its weight times its row through the expert. -/
theorem packed_row (d : ℕ) (hd : d < 4) (ic : Vec Ideal S256x1 .i32) (ew : FVec Ideal S2048x1024 .f32) (g : FVec Ideal S96x256 .f32) (y : FVec Ideal S96x512 .f32)
    (p q : FVec Ideal S256x16 .f32) (i : Fin 96) (t : Fin 256) (h : Fin 1024) (j : Fin 4) (s : Fin 16 → EReal)
    (hic : ic (ix2 t 0) = BitVec.ofNat 32 (4 * d + j.val)) (hg : ∀ u, g (ix2 i u) = if u = t then 1 else 0)
    (hp : ∀ e, p (ix2 t e) = s e) (hq : ∀ e, q (ix2 t e) = top s) (hb : top s ≠ ⊥) (ht : top s ≠ ⊤) :
    k0_pay26 (BitVec.ofNat 32 d) ew g y p q ic (ix2 i h)
      = soft s ⟨4 * d + j.val, by omega⟩ * ∑ a : Fin 512, y (ix2 i a) * ew (ix2 ⟨512 * j.val + a.val, by omega⟩ h) := by
  have hgate (c : BitVec 32) :
      ∑ x : Fin 256, Scalar.select (IntOp.cmpi .eq (ic (ix2 x 0)) c)
          (g (ix2 i x) * ∑ e : Fin 16, Scalar.select (IntOp.cmpi .eq (ic (ix2 x 0)) (BitVec.ofNat 32 e.val))
              (Ideal.div (Ideal.exp (p (ix2 x e) - q (ix2 x e))) (∑ k : Fin 16, Ideal.exp (p (ix2 x k) - q (ix2 x k)))) 0) 0
        = if ic (ix2 t 0) = c then soft s ⟨4 * d + j.val, by omega⟩ else 0 := by
    rw [Finset.sum_eq_single t]
    · rw [select_iff (eq_iff _ _), hg t, if_pos rfl, one_mul, sum_expert _ ⟨4 * d + j.val, by omega⟩ hic]
      simp only [hp, hq]
      rfl
    · intro u _ hu
      rw [hg u, if_neg hu, zero_mul, select_iff (eq_iff _ _), ite_self]
    · intro hh; exact absurd (Finset.mem_univ _) hh
  have key := sum_one_block (fun a => y (ix2 i a))
    (fun k => ∑ x : Fin 256, Scalar.select (IntOp.cmpi .eq (ic (ix2 x 0)) (IntOp.addi (BitVec.ofNat 32 k.val) (Scalar.muli (BitVec.ofNat 32 d) 4#32)))
          (g (ix2 i x) * ∑ e : Fin 16, Scalar.select (IntOp.cmpi .eq (ic (ix2 x 0)) (BitVec.ofNat 32 e.val))
              (Ideal.div (Ideal.exp (p (ix2 x e) - q (ix2 x e))) (∑ k : Fin 16, Ideal.exp (p (ix2 x k) - q (ix2 x k)))) 0) 0)
    _ j (fun x => ew (ix2 x h)) (soft_bounds s hb ht _).1 (soft_bounds s hb ht _).2
    (fun k => (hgate _).trans (by rw [hic]; exact if_congr (expert_word d hd j k) rfl rfl))
  pointwise [k0_pay26]
  exact key

/-- The rows a device packs for a chunk. -/
def packed (w : BitVec 32) (ic : Vec Ideal S256x1 .i32) (x : Vec Ideal S256x512 .f32) (rw : Vec Ideal S512x16 .f32) (ew : Vec Ideal S4x512x1024 .f32) :
    FVec Ideal S96x1024 .f32 :=
  k0_pay26 w (k0_pay1 ew) (k0_pay22 w (k0_pay2 (F := Ideal)) ic) (k0_pay23 w (k0_pay2 (F := Ideal)) ic x) (k0_pay24 x rw) (k0_pay25 x rw) ic

/-- Device `d`'s packed row for token `t` of a chunk: if the token's expert is the device's number `j`, the row of the
token's rank holds its softmax weight times its row through the expert. -/
theorem packed_at (d : ℕ) (hd : d < 4) (ic : Vec Ideal S256x1 .i32) (x : Vec Ideal S256x512 .f32) (rw : Vec Ideal S512x16 .f32) (ew : Vec Ideal S4x512x1024 .f32)
    (i : Fin 96) (t : Fin 256) (h : Fin 1024) (j : Fin 4)
    (hic : ic (ix2 t 0) = BitVec.ofNat 32 (4 * d + j.val))
    (hi : rank (fun u => goes (BitVec.ofNat 32 (4 * d)) ic u = 1#1) t = i.val + 1)
    (hb : top (score x rw t) ≠ ⊥) (ht : top (score x rw t) ≠ ⊤) :
    packed (BitVec.ofNat 32 d) ic x rw ew (ix2 i h)
      = soft (score x rw t) ⟨4 * d + j.val, by omega⟩ * ∑ a : Fin 512, x (ix2 t a) * ew (ix3 j a h) := by
  have hmul : Scalar.muli (BitVec.ofNat 32 d) 4#32 = BitVec.ofNat 32 (4 * d) := by interval_cases d <;> rfl
  have hgo : goes (BitVec.ofNat 32 (4 * d)) ic t = 1#1 := by
    unfold goes
    rw [hic]
    exact (among_iff d (4 * d + j.val) hd (by omega)).2 (by omega)
  have hg (u : Fin 256) : k0_pay22 (BitVec.ofNat 32 d) (k0_pay2 (F := Ideal)) ic (ix2 i u) = if u = t then 1 else 0 := by
    rw [pick_at, hmul]
    by_cases hu : u = t
    · subst hu; rw [if_pos ⟨hi, hgo⟩, if_pos rfl]
    · rw [if_neg hu, if_neg]
      rintro ⟨h1, h2⟩
      exact hu (rank_inj (fun u => goes (BitVec.ofNat 32 (4 * d)) ic u = 1#1) u t h2 hgo (h1.trans hi.symm))
  unfold packed
  rw [packed_row d hd ic _ _ _ _ _ i t h j (score x rw t) hic hg (score_at x rw t) (top_at x rw t) hb ht]
  refine congrArg _ (Finset.sum_congr rfl fun a _ => ?_)
  rw [experts_at ew j a h _ rfl, picked_at, Finset.sum_eq_single t]
  · rw [hg t, if_pos rfl, one_mul]
  · intro u _ hu; rw [hg u, if_neg hu, zero_mul]
  · intro hh; exact absurd (Finset.mem_univ _) hh

/-! ## Putting rows back -/

/-- What a device's packed rows `v` give token `t`: the row of the token's rank, if the token goes to that device. -/
def given (first : BitVec 32) (ic : Vec Ideal S256x1 .i32) (v : Fin 96 → EReal) (t : Fin 256) : EReal :=
  ∑ i : Fin 96, if rank (fun u => goes first ic u = 1#1) t = i.val + 1 ∧ goes first ic t = 1#1 then v i else 0

/-- The kernel's sum over rows is what the packed rows give. -/
theorem given_eq (first : BitVec 32) (ic : Vec Ideal S256x1 .i32) (v : Fin 96 → EReal) (t : Fin 256) :
    ∑ i : Fin 96, Scalar.select (IntOp.andi (BitVec.ofBool (decide (∑ x : Fin 256,
          FloatOps.sitofp (F := Ideal) .f32 (BitVec.setWidth 32 (IntOp.cmpi .sge (BitVec.ofNat 32 t.val) (BitVec.ofNat 32 x.val)))
            * FloatOps.sitofp (F := Ideal) .f32 (BitVec.setWidth 32 (goes first ic x))
          = FloatOps.sitofp (F := Ideal) .f32 (BitVec.ofNat 32 i.val) + 1))) (goes first ic t)) (v i) 0 = given first ic v t := by
  rw [rank_sum' (goes first ic) t]
  exact Finset.sum_congr rfl fun i _ => select_iff (slot_bit _ i.val i.isLt _) _ _

/-- The own rows and the shared expert. -/
theorem own_at (w : BitVec 32) (v : FVec Ideal S96x1024 .f32) (ic : Vec Ideal S256x1 .i32) (x : Vec Ideal S256x512 .f32) (sw : Vec Ideal S512x1024 .f32)
    (t : Fin 256) (h : Fin 1024) :
    k0_pay29 (k0_pay3 (F := Ideal)) v (k0_pay27 (F := Ideal) ic) (Scalar.muli w 4#32) (k0_pay28 w) x sw (ix2 t h)
      = given (Scalar.muli w 4#32) ic (fun i => v (ix2 i h)) t + ∑ a : Fin 512, x (ix2 t a) * sw (ix2 a h) := by
  rw [← given_eq]
  pointwise [k0_pay29, k0_pay3, k0_pay27, k0_pay28]
  rfl

/-- What the accumulator holds after the first landing: one more spread packet. -/
theorem add0_at (w : BitVec 32) (acc : FVec Ideal S256x1024 .f32) (ic : Vec Ideal S256x1 .i32) (v : FVec Ideal S1x96x1024 .bf16) (t : Fin 256) (h : Fin 1024) :
    k0_pay30 (k0_pay3 (F := Ideal)) acc w ic v (ix2 t h)
      = acc (ix2 t h) + given (Scalar.muli (Scalar.remsi w 4#32) 4#32) ic (fun i => v (ix3 0 i h)) t := by
  rw [← given_eq]
  pointwise [k0_pay30, k0_pay3]
  rfl

/-- The same after the second. -/
theorem add1_at (w : BitVec 32) (acc : FVec Ideal S256x1024 .f32) (ic : Vec Ideal S256x1 .i32) (v : FVec Ideal S1x96x1024 .bf16) (t : Fin 256) (h : Fin 1024) :
    k0_pay31 w (k0_pay3 (F := Ideal)) acc ic v (ix2 t h)
      = acc (ix2 t h) + given (Scalar.muli (Scalar.remsi (Scalar.addi w 3#32) 4#32) 4#32) ic (fun i => v (ix3 0 i h)) t := by
  rw [← given_eq]
  pointwise [k0_pay31, k0_pay3]
  rfl

/-- The same after the third. -/
theorem add2_at (w : BitVec 32) (acc : FVec Ideal S256x1024 .f32) (ic : Vec Ideal S256x1 .i32) (v : FVec Ideal S1x96x1024 .bf16) (t : Fin 256) (h : Fin 1024) :
    k0_pay32 w (k0_pay3 (F := Ideal)) acc ic v (ix2 t h)
      = acc (ix2 t h) + given (Scalar.muli (Scalar.remsi (Scalar.addi w 1#32) 4#32) 4#32) ic (fun i => v (ix3 0 i h)) t := by
  rw [← given_eq]
  pointwise [k0_pay32, k0_pay3]
  rfl

end Cert.KernelIdeal.Value

end
-- ==== Proof.KernelIdealValue.lean ====
/-
  The kernel's result, over extended reals: every token's row is its row through the shared expert plus its softmax weight
  times its row through its own expert, given that every token names an expert, that no device gets more than 96 tokens of
  a chunk, and that no token's greatest score is infinite.
-/
module

public import proofs.«01_k».proof.Proof.KernelIdealRead

@[expose] public section

set_option maxRecDepth 16384

noncomputable section

namespace Cert.KernelIdeal.Value

open Cert.KernelIdeal Cert.KernelIdeal.Gen Cert.Dispatch Cert.KernelIdeal.Run Idealize.ShloMosaic

variable (m : (ℓ : Loc nD τ sig) → Buf (Elt Ideal) ℓ)

/-! ## What is staged -/

/-- Each argument's staged copy is the argument. -/
theorem xstg_eq (c : Dev nD) : xstg m c = m ((c.tc : Thread nD τ).loc main_arg0) :=
  Memref.read_access_unit_zero (Elt Ideal) main_arg0 (show (fun a => (win0_0.index (0 : Fin 1)) a * main_arg0.ty.shape.size a) = fun _ => 0 from
    funext fun a => by fin_cases a <;> decide) (fun a => by fin_cases a <;> decide) _
theorem rwstg_eq (c : Dev nD) : rwstg m c = m ((c.tc : Thread nD τ).loc main_arg1) :=
  Memref.read_access_unit_zero (Elt Ideal) main_arg1 (show (fun a => (win0_1.index (0 : Fin 1)) a * main_arg1.ty.shape.size a) = fun _ => 0 from
    funext fun a => by fin_cases a <;> decide) (fun a => by fin_cases a <;> decide) _
theorem ixstg_eq (c : Dev nD) : ixstg m c = m ((c.tc : Thread nD τ).loc main_arg2) :=
  Memref.read_access_unit_zero (Elt Ideal) main_arg2 (show (fun a => (win0_2.index (0 : Fin 1)) a * main_arg2.ty.shape.size a) = fun _ => 0 from
    funext fun a => by fin_cases a <;> decide) (fun a => by fin_cases a <;> decide) _
theorem ewstg_eq (c : Dev nD) : ewstg m c = m ((c.tc : Thread nD τ).loc main_arg3) :=
  Memref.read_access_unit_zero (Elt Ideal) main_arg3 (show (fun a => (win0_3.index (0 : Fin 1)) a * main_arg3.ty.shape.size a) = fun _ => 0 from
    funext fun a => by fin_cases a <;> decide) (fun a => by fin_cases a <;> decide) _
theorem swstg_eq (c : Dev nD) : swstg m c = m ((c.tc : Thread nD τ).loc main_arg4) :=
  Memref.read_access_unit_zero (Elt Ideal) main_arg4 (show (fun a => (win0_4.index (0 : Fin 1)) a * main_arg4.ty.shape.size a) = fun _ => 0 from
    funext fun a => by fin_cases a <;> decide) (fun a => by fin_cases a <;> decide) _

/-- Loading a whole staged argument gives the argument. -/
theorem rwAt_eq (c : Dev nD) : rwAt m c = m ((c.tc : Thread nD τ).loc main_arg1) :=
  (Memref.readAt_unit_zero (Elt Ideal) cc0_stg1_0 (funext fun a => by fin_cases a <;> rfl) (by decide) _).trans (rwstg_eq m c)
theorem ewAt_eq (c : Dev nD) : ewAt m c = m ((c.tc : Thread nD τ).loc main_arg3) :=
  (Memref.readAt_unit_zero (Elt Ideal) cc0_stg3_0 (funext fun a => by fin_cases a <;> rfl) (by decide) _).trans (ewstg_eq m c)
theorem swAt_eq (c : Dev nD) : swAt m c = m ((c.tc : Thread nD τ).loc main_arg4) :=
  (Memref.readAt_unit_zero (Elt Ideal) cc0_stg4_0 (funext fun a => by fin_cases a <;> rfl) (by decide) _).trans (swstg_eq m c)

/-! ## Chunks -/

/-- Token `t` of chunk `q`. -/
def tok (q : ℕ) (hq : q < 4) (t : Fin 256) : Fin 1024 := ⟨256 * q + t.val, by omega⟩

/-- Chunk `q`'s experts and rows. -/
def chunkI (IX : Vec Ideal S1024x1 .i32) (q : ℕ) (hq : q < 4) : Vec Ideal S256x1 .i32 := fun i => IX (ix2 (tok q hq (i 0)) 0)
def chunkX (X : Vec Ideal S1024x512 .f32) (q : ℕ) (hq : q < 4) : Vec Ideal S256x512 .f32 := fun i => X (ix2 (tok q hq (i 0)) (i 1))

/-- A chunk's experts, loaded at the chunk's first row. -/
theorem load_ix (f : Vec Ideal S1024x1 .i32) (q : ℕ) (hq : q < 4) (o : Fin 2 → ℕ) (ho : o = ![256 * q, 0]) (inb : ∀ a, o a + S256x1.size a ≤ S1024x1.size a) :
    (ixM : Memref sig .tc .vmem S1024x1 .i32).view.readAt (Elt Ideal) (Rect.unit (s := S1024x1) o S256x1.size inb).toLoadRect f = chunkI f q hq := by
  subst ho
  funext i
  refine congrArg f (funext fun a => Fin.ext ?_)
  match a with
  | ⟨0, _⟩ => show 256 * q + 1 * (i 0).val = 256 * q + (i 0).val; omega
  | ⟨1, _⟩ => show 0 + 1 * (i 1).val = 0; have : (i 1).val < 1 := (i 1).isLt; omega

/-- A chunk's rows, loaded at the chunk's first row. -/
theorem load_x (f : Vec Ideal S1024x512 .f32) (q : ℕ) (hq : q < 4) (o : Fin 2 → ℕ) (ho : o = ![256 * q, 0]) (inb : ∀ a, o a + S256x512.size a ≤ S1024x512.size a) :
    (xM : Memref sig .tc .vmem S1024x512 .f32).view.readAt (Elt Ideal) (Rect.unit (s := S1024x512) o S256x512.size inb).toLoadRect f = chunkX f q hq := by
  subst ho
  funext i
  refine congrArg f (funext fun a => Fin.ext ?_)
  match a with
  | ⟨0, _⟩ => show 256 * q + 1 * (i 0).val = 256 * q + (i 0).val; omega
  | ⟨1, _⟩ => show 0 + 1 * (i 1).val = (i 1).val; omega

/-- The device's number, as a word. -/
theorem myW_eq (c : Dev nD) : myW c = BitVec.ofNat 32 c.val := by revert c; decide

/-- The first of device `c`'s own experts, and of the experts of each device that sends to it. -/
theorem first_own (c : Dev nD) : Scalar.muli (myW c) 4#32 = BitVec.ofNat 32 (4 * c.val) := by revert c; decide
theorem first_src0 (c : Dev nD) : Scalar.muli (Scalar.remsi (Scalar.addi (myW c) 2#32) 4#32) 4#32 = BitVec.ofNat 32 (4 * (src 0 c).val) := by revert c; decide
theorem first_src1 (c : Dev nD) : Scalar.muli (Scalar.remsi (Scalar.addi (myW c) 3#32) 4#32) 4#32 = BitVec.ofNat 32 (4 * (src 1 c).val) := by revert c; decide
theorem first_src2 (c : Dev nD) : Scalar.muli (Scalar.remsi (Scalar.addi (myW c) 1#32) 4#32) 4#32 = BitVec.ofNat 32 (4 * (src 2 c).val) := by revert c; decide

/-! ## The blocks sent -/

/-- Rows without their leading axis of one. -/
theorem drop_one (v : FVec Ideal S96x1024 .f32) (i : Fin 96) (h : Fin 1024) :
    (shapeCast S1x96x1024 (truncf .bf16 v bitsLt_bf16_f32) shapeCasts_S96x1024_S1x96x1024 : FVec Ideal S1x96x1024 .bf16) (ix3 0 i h) = v (ix2 i h) := by
  pointwise []

/-- What device `c` packs for each of the other three devices. -/
theorem sent0_at (c : Dev nD) (i : Fin 96) (h : Fin 1024) :
    sent m 0 c (ix3 0 i h) = packed (myW c) (ixAt m c 1) (xAt m c 1) (rwAt m c) (ewAt m c) (ix2 i h) := drop_one _ i h
theorem sent1_at (c : Dev nD) (i : Fin 96) (h : Fin 1024) :
    sent m 1 c (ix3 0 i h) = packed (myW c) (ixAt m c 0) (xAt m c 0) (rwAt m c) (ewAt m c) (ix2 i h) := drop_one _ i h
theorem sent2_at (c : Dev nD) (i : Fin 96) (h : Fin 1024) :
    sent m 2 c (ix3 0 i h) = packed (myW c) (ixAt m c 2) (xAt m c 2) (rwAt m c) (ewAt m c) (ix2 i h) := drop_one _ i h

/-! ## The result -/

/-- What token `n` gets from its own expert: its softmax weight for that expert times its row through the expert. -/
def routedRow (X : Vec Ideal S1024x512 .f32) (RW : Vec Ideal S512x16 .f32) (E : Fin 1024 → Fin 16) (EW : (⟨3, ![16, 512, 1024]⟩ : Shape).Idx → EReal)
    (n : Fin 1024) (h : Fin 1024) : EReal :=
  soft (fun e => ∑ a : Fin 512, X (ix2 n a) * RW (ix2 a e)) (E n) * ∑ a : Fin 512, X (ix2 n a) * EW (ix3 (E n) a h)

/-- Of the four devices one has the token's expert; the other three give nothing. -/
theorem collect (k d : ℕ) (hk : k < 4) (hd : d < 4) (v w : EReal) :
    (if d = k then v else 0) + w + (if d = (k + 2) % 4 then v else 0) + (if d = (k + 3) % 4 then v else 0) + (if d = (k + 1) % 4 then v else 0) = w + v := by
  interval_cases k <;> interval_cases d <;> simp [add_comm]

section Result

variable (X : Vec Ideal S1024x512 .f32) (RW : Vec Ideal S512x16 .f32) (IX : Vec Ideal S1024x1 .i32) (E : Fin 1024 → Fin 16)
  (EW : (⟨3, ![16, 512, 1024]⟩ : Shape).Idx → EReal) (SW : Vec Ideal S512x1024 .f32)
  (hE : ∀ n, IX (ix2 n 0) = BitVec.ofNat 32 (E n).val)
  (hcap : ∀ (q : ℕ) (hq : q < 4) (d : ℕ), d < 4 → (Finset.univ.filter fun u : Fin 256 => (E (tok q hq u)).val / 4 = d).card ≤ 96)
  (hb : ∀ n, top (fun e => ∑ a : Fin 512, X (ix2 n a) * RW (ix2 a e)) ≠ ⊥)
  (ht : ∀ n, top (fun e => ∑ a : Fin 512, X (ix2 n a) * RW (ix2 a e)) ≠ ⊤)

include hE in
/-- Token `u` of chunk `q` goes to device `d` just when its expert is one of `d`'s four. -/
theorem goes_iff (q : ℕ) (hq : q < 4) (d : ℕ) (hd : d < 4) (u : Fin 256) :
    goes (BitVec.ofNat 32 (4 * d)) (chunkI IX q hq) u = 1#1 ↔ (E (tok q hq u)).val / 4 = d := by
  have : chunkI IX q hq (ix2 u 0) = BitVec.ofNat 32 (E (tok q hq u)).val := hE _
  unfold goes
  rw [this]
  exact among_iff d _ hd (E _).isLt

include hE hcap hb ht in
/-- What device `d` gives token `t` of chunk `q`: the token's routed row if the expert is one of `d`'s, else nothing. -/
theorem given_at (q : ℕ) (hq : q < 4) (d : ℕ) (hd : d < 4) (ew : Vec Ideal S4x512x1024 .f32)
    (hew : ∀ (j : Fin 4) (a : Fin 512) (h : Fin 1024), ew (ix3 j a h) = EW (ix3 ⟨4 * d + j.val, by omega⟩ a h)) (t : Fin 256) (h : Fin 1024) :
    given (BitVec.ofNat 32 (4 * d)) (chunkI IX q hq)
        (fun i => packed (BitVec.ofNat 32 d) (chunkI IX q hq) (chunkX X q hq) RW ew (ix2 i h)) t
      = if (E (tok q hq t)).val / 4 = d then routedRow X RW E EW (tok q hq t) h else 0 := by
  have hgo := goes_iff IX E hE q hq d hd
  unfold given
  have hk : goes (BitVec.ofNat 32 (4 * d)) (chunkI IX q hq) t = 1#1 →
      0 < rank (fun u => goes (BitVec.ofNat 32 (4 * d)) (chunkI IX q hq) u = 1#1) t ∧ rank (fun u => goes (BitVec.ofNat 32 (4 * d)) (chunkI IX q hq) u = 1#1) t ≤ 96 := by
    intro hm
    refine ⟨rank_pos _ t hm, (rank_le _ t).trans ?_⟩
    rw [Finset.filter_congr fun u _ => hgo u]
    exact hcap q hq d hd
  rw [sum_rows _ _ _ hk]
  by_cases hm : (E (tok q hq t)).val / 4 = d
  · rw [if_pos hm, dif_pos ((hgo t).2 hm)]
    have hj : (E (tok q hq t)).val = 4 * d + (E (tok q hq t)).val % 4 := by omega
    have hlt : (E (tok q hq t)).val % 4 < 4 := Nat.mod_lt _ (by decide)
    have he : (⟨4 * d + (⟨(E (tok q hq t)).val % 4, hlt⟩ : Fin 4).val, by simp only; omega⟩ : Fin 16) = E (tok q hq t) := Fin.ext hj.symm
    rw [packed_at d hd (chunkI IX q hq) (chunkX X q hq) RW ew _ t h ⟨(E (tok q hq t)).val % 4, hlt⟩ ((hE _).trans (congrArg (BitVec.ofNat 32) hj))
      (show _ = _ - 1 + 1 by have := hk ((hgo t).2 hm); omega) (hb _) (ht _)]
    unfold routedRow
    rw [he]
    refine congrArg _ (Finset.sum_congr rfl fun a _ => ?_)
    rw [hew, he]
    rfl
  · rw [if_neg hm, dif_neg fun hh => hm ((hgo t).1 hh)]

include hE hcap hb ht in
/-- The kernel's result at row `t` of device `c`: the token's row through the shared expert and its routed row. -/
theorem outAt_at (c : Dev nD)
    (h0 : ∀ s : Dev nD, m ((s.tc : Thread nD τ).loc main_arg0) = X) (h1 : ∀ s : Dev nD, m ((s.tc : Thread nD τ).loc main_arg1) = RW)
    (h2 : ∀ s : Dev nD, m ((s.tc : Thread nD τ).loc main_arg2) = IX)
    (h3 : ∀ (s : Dev nD) (j : Fin 4) (a : Fin 512) (h : Fin 1024), (m ((s.tc : Thread nD τ).loc main_arg3) : Vec Ideal S4x512x1024 .f32) (ix3 j a h) = EW (ix3 ⟨4 * s.val + j.val, by have hs : s.val < 4 := s.isLt; have hj := j.isLt; omega⟩ a h))
    (h4 : ∀ s : Dev nD, m ((s.tc : Thread nD τ).loc main_arg4) = SW) (t : Fin 256) (h : Fin 1024) :
    outAt m c (ix2 t h)
      = (∑ a : Fin 512, X (ix2 (tok c.val c.isLt t) a) * SW (ix2 a h)) + routedRow X RW E EW (tok c.val c.isLt t) h := by
  have hix (s : Dev nD) (r : Fin 3) (q : ℕ) (hq : q < 4) (e : (s.val + r.val + 1) % 4 = q) : ixAt m s r = chunkI IX q hq := by
    unfold ixAt
    rw [load_ix _ q hq _ ((k0_off1_eq s r).trans (by rw [e])), ixstg_eq, h2]
  have hx (s : Dev nD) (r : Fin 3) (q : ℕ) (hq : q < 4) (e : (s.val + r.val + 1) % 4 = q) : xAt m s r = chunkX X q hq := by
    unfold xAt
    rw [load_x _ q hq _ ((k0_off2_eq s r).trans (by rw [e])), xstg_eq, h0]
  have hio : ixOwn m c = chunkI IX c.val c.isLt := by
    unfold ixOwn
    rw [load_ix _ c.val c.isLt _ (k0_off3_eq c), ixstg_eq, h2]
  have hxo : xOwn m c = chunkX X c.val c.isLt := by
    unfold xOwn
    rw [load_x _ c.val c.isLt _ (k0_off4_eq c), xstg_eq, h0]
  have hg (s : Dev nD) := given_at X RW IX E EW hE hcap hb ht c.val c.isLt s.val s.isLt (ewAt m s) (fun j a h => by rw [ewAt_eq]; exact h3 s j a h) t h
  have hs0 : (src 0 c).val = (c.val + 2) % 4 := rfl
  have hs1 : (src 1 c).val = (c.val + 3) % 4 := rfl
  have hs2 : (src 2 c).val = (c.val + 1) % 4 := rfl
  have hc : c.val < 4 := c.isLt
  have hown : ownAt m c (ix2 t h)
      = (if (E (tok c.val c.isLt t)).val / 4 = c.val then routedRow X RW E EW (tok c.val c.isLt t) h else 0)
        + ∑ a : Fin 512, X (ix2 (tok c.val c.isLt t) a) * SW (ix2 a h) := by
    have e : ownAt m c = k0_pay29 (k0_pay3 (F := Ideal)) (packed (myW c) (ixOwn m c) (xOwn m c) (rwAt m c) (ewAt m c))
      (k0_pay27 (F := Ideal) (ixOwn m c)) (Scalar.muli (myW c) 4#32) (k0_pay28 (myW c)) (xOwn m c) (swAt m c) := rfl
    rw [e, own_at, first_own, myW_eq, hio, hxo, rwAt_eq, h1, hg c, swAt_eq, h4]
    rfl
  unfold outAt
  rw [add2_at, add1_at, add0_at, hown, first_src0, first_src1, first_src2]
  simp only [sent0_at, sent1_at, sent2_at, myW_eq, rwAt_eq, h1, hio]
  rw [hix (src 0 c) 1 c.val c.isLt (by rw [hs0]; simp only [Fin.val_one]; omega), hx (src 0 c) 1 c.val c.isLt (by rw [hs0]; simp only [Fin.val_one]; omega),
    hix (src 1 c) 0 c.val c.isLt (by rw [hs1]; simp only [Fin.val_zero]; omega), hx (src 1 c) 0 c.val c.isLt (by rw [hs1]; simp only [Fin.val_zero]; omega),
    hix (src 2 c) 2 c.val c.isLt (by rw [hs2]; simp only [Fin.val_two]; omega), hx (src 2 c) 2 c.val c.isLt (by rw [hs2]; simp only [Fin.val_two]; omega),
    hg (src 0 c), hg (src 1 c), hg (src 2 c), hs0, hs1, hs2]
  have hd : (E (tok c.val c.isLt t)).val / 4 < 4 := by have := (E (tok c.val c.isLt t)).isLt; omega
  exact collect c.val _ hc hd _ _

end Result

end Cert.KernelIdeal.Value

end
-- ==== Proof.ReferenceIdealValue.lean ====
/-
  The reference's result, over extended reals: every token's row is its row through the shared expert plus its softmax
  weight for the expert it names times its row through that expert.
-/
module

public import proofs.«01_k».proof.Proof.Gen.ReferenceIdeal.Run
public import proofs.«01_k».proof.Proof.Dispatch

@[expose] public section

set_option maxRecDepth 16384

noncomputable section

namespace Cert.ReferenceIdeal.Value

open Cert.ReferenceIdeal Cert.ReferenceIdeal.Gen Cert.Dispatch Idealize.ShloMosaic

/-! ## The two lookups -/

/-- A number below `n + 1`, read signed and clamped to `n`, is itself. -/
theorem clamp (e n : ℕ) (h : e ≤ n) (hn : n < 2147483648) : min (BitVec.ofNat 32 e).toInt.toNat n = e := by
  rw [toInt_small e (by omega)]
  simp only [Int.toNat_natCast]
  omega

/-- Looking up matrix `e` of sixteen. -/
theorem lookup_matrix (W : FVec Ideal S16x512x1024 .f32) (idx : IVec S1024x1 32) (n : Fin 1024) (a : Fin 512) (h : Fin 1024) (e : Fin 16)
    (he : idx (ix2 n 0) = BitVec.ofNat 32 e.val) :
    Host.gather gather_S16x512x1024_S1024x1_S1024x512x1024_12_0_n_n_0_1_15121024 W idx (ix3 n a h) = W (ix3 e a h) := by
  unfold Host.gather
  refine congrArg W (funext fun b => Fin.ext ?_)
  match b with
  | ⟨0, _⟩ =>
    show (gather_S16x512x1024_S1024x1_S1024x512x1024_12_0_n_n_0_1_15121024).start (ix3 n a h) idx 0 + 0 + 0 = e.val
    have hs : (gather_S16x512x1024_S1024x1_S1024x512x1024_12_0_n_n_0_1_15121024).siIdx (ix3 n a h) ⟨0, by decide⟩ = ix2 n 0 := by
      funext k
      match k with
      | ⟨0, _⟩ => rfl
      | ⟨1, _⟩ => rfl
    have : (gather_S16x512x1024_S1024x1_S1024x512x1024_12_0_n_n_0_1_15121024).start (ix3 n a h) idx 0
      = min (idx ((gather_S16x512x1024_S1024x1_S1024x512x1024_12_0_n_n_0_1_15121024).siIdx (ix3 n a h) ⟨0, by decide⟩)).toInt.toNat 15 := rfl
    rw [this, hs, he, clamp e.val 15 (by omega) (by decide), Nat.add_zero]
  | ⟨1, _⟩ => show 0 + 0 + a.val = a.val; omega
  | ⟨2, _⟩ => show 0 + 0 + h.val = h.val; omega

/-- Looking up entry `(n, e)` of a table of 1024 by 16. -/
theorem lookup_entry (p : FVec Ideal S1024x16 .f32) (idx : IVec S1024x2 32) (n : Fin 1024) (e : Fin 16)
    (hn : idx (ix2 n 0) = BitVec.ofNat 32 n.val) (he : idx (ix2 n 1) = BitVec.ofNat 32 e.val) :
    Host.gather gather_S1024x16_S1024x2_S1024_n_01_n_n_01_1_11 p idx (ix1 n) = p (ix2 n e) := by
  unfold Host.gather
  refine congrArg p (funext fun b => Fin.ext ?_)
  match b with
  | ⟨0, _⟩ =>
    show (gather_S1024x16_S1024x2_S1024_n_01_n_n_01_1_11).start (ix1 n) idx 0 + 0 + 0 = n.val
    have hs : (gather_S1024x16_S1024x2_S1024_n_01_n_n_01_1_11).siIdx (ix1 n) ⟨0, by decide⟩ = ix2 n 0 := by
      funext k
      match k with
      | ⟨0, _⟩ => rfl
      | ⟨1, _⟩ => rfl
    have : (gather_S1024x16_S1024x2_S1024_n_01_n_n_01_1_11).start (ix1 n) idx 0
      = min (idx ((gather_S1024x16_S1024x2_S1024_n_01_n_n_01_1_11).siIdx (ix1 n) ⟨0, by decide⟩)).toInt.toNat 1023 := rfl
    rw [this, hs, hn, clamp n.val 1023 (by omega) (by decide), Nat.add_zero]
  | ⟨1, _⟩ =>
    show (gather_S1024x16_S1024x2_S1024_n_01_n_n_01_1_11).start (ix1 n) idx 1 + 0 + 0 = e.val
    have hs : (gather_S1024x16_S1024x2_S1024_n_01_n_n_01_1_11).siIdx (ix1 n) ⟨1, by decide⟩ = ix2 n 1 := by
      funext k
      match k with
      | ⟨0, _⟩ => rfl
      | ⟨1, _⟩ => rfl
    have : (gather_S1024x16_S1024x2_S1024_n_01_n_n_01_1_11).start (ix1 n) idx 1
      = min (idx ((gather_S1024x16_S1024x2_S1024_n_01_n_n_01_1_11).siIdx (ix1 n) ⟨1, by decide⟩)).toInt.toNat 15 := rfl
    rw [this, hs, he, clamp e.val 15 (by omega) (by decide), Nat.add_zero]

/-! ## The indices looked up -/

/-- The experts as a column, a negative one counted from the end. -/
def expertCol (IX : IVec S1024x1 32) : IVec S1024x1 32 :=
  broadcastInDim S1024x1 ![0] bcast_S1024_S1024x1_0 (select (cmpi .slt (shapeCast S1024 IX shapeCasts_S1024x1_S1024) (broadcastInDim S1024 ![] bcast_S_S1024 (constantI S_ 32 0#32))) (addi (shapeCast S1024 IX shapeCasts_S1024x1_S1024) (broadcastInDim S1024 ![] bcast_S_S1024 (constantI S_ 32 16#32))) (shapeCast S1024 IX shapeCasts_S1024x1_S1024))

/-- The tokens as a column, likewise. -/
def tokenCol : IVec S1024x1 32 :=
  broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0))

/-- A small number is not negative. -/
theorem not_neg (k : ℕ) (hk : k < 2147483648) (a b : BitVec 32) : Scalar.select (IntOp.cmpi .slt (BitVec.ofNat 32 k) 0#32) a b = b := by
  have h : IntOp.cmpi .slt (BitVec.ofNat 32 k) 0#32 = BitVec.ofBool ((BitVec.ofNat 32 k).slt 0#32) := rfl
  rw [h, BitVec.slt, toInt_small k hk]
  simp
  rfl

/-- An expert from 0 to 15 is looked up as it is. -/
theorem expertCol_at (IX : IVec S1024x1 32) (n : Fin 1024) (e : Fin 16) (he : IX (ix2 n 0) = BitVec.ofNat 32 e.val) :
    expertCol IX (ix2 n 0) = BitVec.ofNat 32 e.val := by
  pointwise [expertCol]
  rw [he, not_neg _ (by omega)]

/-- Token `n` is looked up at `n`. -/
theorem tokenCol_at (n : Fin 1024) : tokenCol (ix2 n 0) = BitVec.ofNat 32 n.val := by
  pointwise [tokenCol]
  rw [not_neg _ (by omega)]

/-- Tokens and experts side by side. -/
def pairs (IX : IVec S1024x1 32) : IVec S1024x2 32 :=
  concatenate S1024x2 1 [⟨S1024x1, tokenCol⟩, ⟨S1024x1, expertCol IX⟩] concatenates_S1024x1_S1024x1_S1024x2_d1

/-- The first of a pair is the token, -/
theorem pairs_0 (IX : IVec S1024x1 32) (n : Fin 1024) : pairs IX (ix2 n 0) = tokenCol (ix2 n 0) := by
  unfold pairs
  generalize tokenCol = a
  generalize expertCol IX = b
  pointwise []

/-- and the second its expert. -/
theorem pairs_1 (IX : IVec S1024x1 32) (n : Fin 1024) : pairs IX (ix2 n 1) = expertCol IX (ix2 n 0) := by
  unfold pairs
  generalize tokenCol = a
  generalize expertCol IX = b
  pointwise []

/-! ## The weights -/

/-- The router's scores. -/
def scores (X : FVec Ideal S1024x512 .f32) (RW : FVec Ideal S512x16 .f32) : FVec Ideal S1024x16 .f32 :=
  Host.dotGeneral dot_S1024x512_S512x16_S1024x16_1_0_0_1_n_n none X RW

/-- The exponentials of the scores less the greatest of the row. -/
def exps (s : FVec Ideal S1024x16 .f32) : FVec Ideal S1024x16 .f32 :=
  Host.exp (subf s (broadcastInDim S1024x16 ![0, 1] bcast_S1024x1_S1024x16_0_1 (broadcastInDim S1024x1 ![0] bcast_S1024_S1024x1_0 (Host.reduce FloatOps.maximumf s (constant S_ .f32 0xFF800000#32) reducesTo_S1024x16_S1024_d1 h_S_))))

/-- The softmax weights. -/
def weights (s : FVec Ideal S1024x16 .f32) : FVec Ideal S1024x16 .f32 :=
  Host.divf (exps s) (broadcastInDim S1024x16 ![0, 1] bcast_S1024x1_S1024x16_0_1 (broadcastInDim S1024x1 ![0] bcast_S1024_S1024x1_0 (Host.reduceAdd (exps s) (constant S_ .f32 0x00000000#32) reducesTo_S1024x16_S1024_d1 h_S_)))

/-- A score is a token's product with a column of the router. -/
theorem scores_at (X : FVec Ideal S1024x512 .f32) (RW : FVec Ideal S512x16 .f32) (n : Fin 1024) (e : Fin 16) :
    scores X RW (ix2 n e) = ∑ a : Fin 512, X (ix2 n a) * RW (ix2 a e) := by
  pointwise [scores]

/-- A weight is the softmax of the token's scores. -/
theorem weights_at (s : FVec Ideal S1024x16 .f32) (n : Fin 1024) (e : Fin 16) : weights s (ix2 n e) = soft (fun k => s (ix2 n k)) e := by
  pointwise [weights, exps]
  rfl

/-! ## The result -/

/-- The reference's result as the operations compose it. -/
def result (X : FVec Ideal S1024x512 .f32) (RW : FVec Ideal S512x16 .f32) (IX : IVec S1024x1 32) (EW : FVec Ideal S16x512x1024 .f32) (SW : FVec Ideal S512x1024 .f32) :
    FVec Ideal S1024x1024 .f32 :=
  addf (Host.dotGeneral dot_S1024x512_S512x1024_S1024x1024_1_0_0_1_n_n none X SW)
    (mulf (broadcastInDim S1024x1024 ![0, 1] bcast_S1024x1_S1024x1024_0_1 (broadcastInDim S1024x1 ![0] bcast_S1024_S1024x1_0
        (Host.gather gather_S1024x16_S1024x2_S1024_n_01_n_n_01_1_11 (weights (scores X RW)) (pairs IX))))
      (Host.dotGeneral dot_S1024x512_S1024x512x1024_S1024x1024_1_1_n_2_0_0 none X
        (Host.gather gather_S16x512x1024_S1024x1_S1024x512x1024_12_0_n_n_0_1_15121024 EW (expertCol IX))))

/-- Where token `n` names expert `e`, its row of the result. -/
theorem result_at (X : FVec Ideal S1024x512 .f32) (RW : FVec Ideal S512x16 .f32) (IX : IVec S1024x1 32) (EW : FVec Ideal S16x512x1024 .f32) (SW : FVec Ideal S512x1024 .f32)
    (n : Fin 1024) (h : Fin 1024) (e : Fin 16) (he : IX (ix2 n 0) = BitVec.ofNat 32 e.val) :
    result X RW IX EW SW (ix2 n h)
      = (∑ a : Fin 512, X (ix2 n a) * SW (ix2 a h))
        + soft (fun k => ∑ a : Fin 512, X (ix2 n a) * RW (ix2 a k)) e * ∑ a : Fin 512, X (ix2 n a) * EW (ix3 e a h) := by
  have hw : Host.gather gather_S1024x16_S1024x2_S1024_n_01_n_n_01_1_11 (weights (scores X RW)) (pairs IX) (ix1 n)
      = soft (fun k => ∑ a : Fin 512, X (ix2 n a) * RW (ix2 a k)) e := by
    rw [lookup_entry _ _ n e ((pairs_0 IX n).trans (tokenCol_at n)) ((pairs_1 IX n).trans (expertCol_at IX n e he)), weights_at]
    simp only [scores_at]
  have hm (a : Fin 512) : Host.gather gather_S16x512x1024_S1024x1_S1024x512x1024_12_0_n_n_0_1_15121024 EW (expertCol IX) (ix3 n a h) = EW (ix3 e a h) :=
    lookup_matrix EW _ n a h e (expertCol_at IX n e he)
  unfold result
  revert hw hm
  generalize Host.gather gather_S1024x16_S1024x2_S1024_n_01_n_n_01_1_11 (weights (scores X RW)) (pairs IX) = g
  generalize Host.gather gather_S16x512x1024_S1024x1_S1024x512x1024_12_0_n_n_0_1_15121024 EW (expertCol IX) = w
  intro hw hm
  pointwise []
  rw [hw]
  simp only [hm]

end Cert.ReferenceIdeal.Value

end
-- ==== Proof.Routed.lean ====
/-
  What the precondition says of the inputs: each token names one of the sixteen experts, no device gets more than 96 tokens
  of a chunk, and no token's greatest router score is infinite.
-/
module

public import proofs.«01_k».proof.Pre_routed_KernelIdeal
public import proofs.«01_k».proof.Pre_routed_ReferenceIdeal
public import proofs.«01_k».proof.Proof.Dispatch
public import Idealize.ShloMosaic.Lib.ReduceAll
public import Idealize.ShloMosaic.Lib.IndicatorCount
public import Idealize.ShloMosaic.Lib.Affine

@[expose] public section

set_option maxRecDepth 16384

noncomputable section

/-- The shapes the precondition names fit each other. -/
theorem Cert.Pre_routed_KernelIdeal.facts : Cert.Pre_routed_KernelIdeal.Facts := by constructor <;> decide

/-- The same for the reference's inputs. -/
theorem Cert.Pre_routed_ReferenceIdeal.facts : Cert.Pre_routed_ReferenceIdeal.Facts := by constructor <;> decide

namespace Cert.Pre_routed_KernelIdeal

open Idealize.ShloMosaic Cert.Dispatch

variable [Facts]
open Facts

/-- A value whose magnitude is below infinity is neither infinity. -/
theorem finite_of_abs (M : EReal) (e : BitVec.ofBool (decide (FloatOps.absf (F := Ideal) (φ := .f32) M < (⊤ : EReal))) = 1#1) : M ≠ ⊥ ∧ M ≠ ⊤ := by
  have e1 : FloatOps.absf (F := Ideal) (φ := .f32) M < (⊤ : EReal) := by
    by_contra hn
    rw [decide_eq_false hn] at e
    exact absurd e (by decide)
  have e2 : max M (-M) < ⊤ := e1
  constructor
  · rintro rfl; simp at e2
  · rintro rfl; simp at e2

/-- What meeting the precondition gives. -/
theorem routed_reads (x : FVec Ideal S1024x512 .f32) (rw : FVec Ideal S512x16 .f32) (ic : IVec S1024x1 32) (ew : FVec Ideal S4x512x1024 .f32)
    (sw : FVec Ideal S512x1024 .f32) (h : fn (F := Ideal) x rw ic ew sw = fun _ => 1#1) :
    (∀ n : Fin 1024, 0 ≤ (ic (ix2 n 0)).toInt ∧ (ic (ix2 n 0)).toInt < 16)
      ∧ (∀ (q d : Fin 4), (Finset.univ.filter fun u : Fin 256 => among (BitVec.ofNat 32 (4 * d.val)) (ic (ix2 ⟨256 * q.val + u.val, by omega⟩ 0)) = 1#1).card ≤ 96)
      ∧ ∀ n : Fin 1024, top (fun e => ∑ a : Fin 512, x (ix2 n a) * rw (ix2 a e)) ≠ ⊥ ∧ top (fun e => ∑ a : Fin 512, x (ix2 n a) * rw (ix2 a e)) ≠ ⊤ := by
  have h0 := congrFun h (fun a => a.elim0)
  simp only [fn, fn_part1] at h0
  obtain ⟨hAB, hC⟩ := IntOp.andi_eq_one.1 h0
  obtain ⟨hA, hB⟩ := IntOp.andi_eq_one.1 hAB
  have : Subsingleton S_.Idx := ⟨fun a b => funext fun i => i.elim0⟩
  refine ⟨fun n => ?_, fun q d => ?_, fun n => ?_⟩
  · have e := Host.reduce_andi_all _ _ _ _ _ hA (ix2 n 0)
    revert e
    pointwise []
    intro e
    obtain ⟨e1, e2⟩ := IntOp.andi_eq_one.1 e
    exact ⟨IntOp.cmpi_sge.1 e1, IntOp.cmpi_slt.1 e2⟩
  · have e := Host.reduce_andi_all _ _ _ _ _ hB (ix2 q d)
    revert e
    pointwise []
    intro e
    rw [IndicatorCount.fold_addi_setWidth_eq_card] at e
    have hc : ∀ S : Finset (Fin 256), S.card ≤ 256 := fun S => (Finset.card_le_univ S).trans (by simp)
    refine le_trans (le_of_eq (congrArg Finset.card (Finset.filter_congr fun u _ => ?_))) ((sle_iff _ 96 (lt_of_le_of_lt (hc _) (by decide)) (by decide)).1 e)
    have e4 : BitVec.ofNat 32 (4 * d.val) = IntOp.muli 4#32 (BitVec.ofNat 32 d.val) := by clear e hB hA hC; clear hAB h0; fin_cases d <;> rfl
    rw [e4, show (⟨256 * q.val + u.val, by omega⟩ : Fin 1024) = ⟨q.val * 256 + u.val, by omega⟩ from Fin.ext (by simp only; omega)]
    rfl
  · have e := Host.reduce_andi_all _ _ _ _ _ hC (ix1 n)
    revert e
    pointwise []
    rw [ofBits_inf]
    exact finite_of_abs _

end Cert.Pre_routed_KernelIdeal

end
-- ==== Proof.lean ====
/-
  The certificate: the three programs finish with their arguments as they were and every semaphore at zero, and on
  exact arithmetic, for inputs that meet `routed`, each device of the kernel ends with its 256 rows of the reference's
  result.
-/
module

public import proofs.«01_k».proof.Defs
public import proofs.«01_k».proof.Proof.KernelRun
public import proofs.«01_k».proof.Proof.KernelIdealRun
public import proofs.«01_k».proof.Proof.KernelIdealValue
public import proofs.«01_k».proof.Proof.ReferenceIdealValue
public import proofs.«01_k».proof.Proof.Routed
public import Idealize.ShloMosaic.Lib.LayoutAt

@[expose] public section

set_option maxRecDepth 16384

noncomputable section

namespace Cert.Proof

open Idealize.ShloMosaic Idealize.SL.Sem Cert.Dispatch

/-! ## Frames -/

/-- Every window but the last is an argument, and each ends as it was: the floating-point kernel. -/
theorem args_kernel (m : (ℓ : Loc Cert.Kernel.nD Cert.Kernel.τ Cert.Kernel.sig) → Buf (Elt Bits) ℓ) (ρ : Dev Cert.Kernel.nD → PrngReg)
    (r : PUnit × MemSt Cert.Kernel.nD Cert.Kernel.τ Cert.Kernel.sig (Elt Bits)) (h : Cert.Kernel.Run.QC m ρ r) (c : Dev Cert.Kernel.nD) :
    r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4) :=
  ⟨(h c 0).trans (Cert.Kernel.Run.finalA_in m ρ c 0 (by decide)), (h c 1).trans (Cert.Kernel.Run.finalA_in m ρ c 1 (by decide)),
    (h c 2).trans (Cert.Kernel.Run.finalA_in m ρ c 2 (by decide)), (h c 3).trans (Cert.Kernel.Run.finalA_in m ρ c 3 (by decide)),
    (h c 4).trans (Cert.Kernel.Run.finalA_in m ρ c 4 (by decide))⟩

/-- The same of the kernel on exact arithmetic. -/
theorem args_kernelIdeal (m : (ℓ : Loc Cert.KernelIdeal.nD Cert.KernelIdeal.τ Cert.KernelIdeal.sig) → Buf (Elt Ideal) ℓ) (ρ : Dev Cert.KernelIdeal.nD → PrngReg)
    (r : PUnit × MemSt Cert.KernelIdeal.nD Cert.KernelIdeal.τ Cert.KernelIdeal.sig (Elt Ideal)) (h : Cert.KernelIdeal.Run.QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h c 0).trans (Cert.KernelIdeal.Run.finalA_in m ρ c 0 (by decide)), (h c 1).trans (Cert.KernelIdeal.Run.finalA_in m ρ c 1 (by decide)),
    (h c 2).trans (Cert.KernelIdeal.Run.finalA_in m ρ c 2 (by decide)), (h c 3).trans (Cert.KernelIdeal.Run.finalA_in m ρ c 3 (by decide)),
    (h c 4).trans (Cert.KernelIdeal.Run.finalA_in m ρ c 4 (by decide))⟩

/-- The floating-point kernel finishes, its arguments as they were and every semaphore at zero. -/
theorem frame_kernel : @Cert.quiescent_Kernel Cert.Kernel.Gen.facts := by
  intro m ρ _
  exact (θ_run Cert.Kernel.defs _ _).mono (fun r h => ⟨fun c => args_kernel m ρ r h.1 c, h.2⟩) (Cert.Kernel.Run.run_main (F := Bits) m ρ)

/-- So does the kernel on exact arithmetic. -/
theorem frame_kernelIdeal : @Cert.quiescent_KernelIdeal Cert.KernelIdeal.Gen.facts := by
  intro m ρ _
  exact (θ_run Cert.KernelIdeal.defs _ _).mono (fun r h => ⟨fun c => args_kernelIdeal m ρ r h.1 c, h.2⟩) (Cert.KernelIdeal.Run.run_main (F := Ideal) m ρ)

/-- So does the reference on exact arithmetic. -/
theorem frame_referenceIdeal : @Cert.quiescent_ReferenceIdeal Cert.ReferenceIdeal.Gen.facts := by
  intro m ρ _
  exact (θ_run Cert.ReferenceIdeal.defs _ _).mono (fun r h => ⟨fun c => (h c).2, Idealize.ShloMosaic.sem_eq_zero_of_no_sems (by decide) r.2⟩)
    (Cert.ReferenceIdeal.Value.run (F := Ideal) m ρ)

/-! ## The values -/

/-- If every device holds the inputs and its four of the sixteen experts, and the inputs are routed as the precondition
    says, then device `c`'s result is rows `256c` to `256c + 255` of the reference's. -/
theorem rows_of (m : (ℓ : Loc Cert.KernelIdeal.nD Cert.KernelIdeal.τ Cert.KernelIdeal.sig) → Buf (Elt Ideal) ℓ)
    (X : FVec Ideal ⟨2, ![1024, 512]⟩ .f32) (RW : FVec Ideal ⟨2, ![512, 16]⟩ .f32) (IX : IVec ⟨2, ![1024, 1]⟩ 32)
    (EW : FVec Ideal ⟨3, ![16, 512, 1024]⟩ .f32) (SW : FVec Ideal ⟨2, ![512, 1024]⟩ .f32)
    (h0 : ∀ s : Dev Cert.KernelIdeal.nD, m ((s.tc : Thread Cert.KernelIdeal.nD Cert.KernelIdeal.τ).loc Cert.KernelIdeal.main_arg0) = X)
    (h1 : ∀ s : Dev Cert.KernelIdeal.nD, m ((s.tc : Thread Cert.KernelIdeal.nD Cert.KernelIdeal.τ).loc Cert.KernelIdeal.main_arg1) = RW)
    (h2 : ∀ s : Dev Cert.KernelIdeal.nD, m ((s.tc : Thread Cert.KernelIdeal.nD Cert.KernelIdeal.τ).loc Cert.KernelIdeal.main_arg2) = IX)
    (h3 : ∀ (s : Dev Cert.KernelIdeal.nD) (j : Fin 4) (a : Fin 512) (h : Fin 1024),
      (m ((s.tc : Thread Cert.KernelIdeal.nD Cert.KernelIdeal.τ).loc Cert.KernelIdeal.main_arg3) : FVec Ideal ⟨3, ![4, 512, 1024]⟩ .f32) (ix3 j a h)
        = EW (ix3 ⟨4 * s.val + j.val, by have hs : s.val < 4 := s.isLt; have hj := j.isLt; omega⟩ a h))
    (h4 : ∀ s : Dev Cert.KernelIdeal.nD, m ((s.tc : Thread Cert.KernelIdeal.nD Cert.KernelIdeal.τ).loc Cert.KernelIdeal.main_arg4) = SW)
    (hr : (∀ n : Fin 1024, 0 ≤ (IX (ix2 n 0)).toInt ∧ (IX (ix2 n 0)).toInt < 16)
      ∧ (∀ (q d : Fin 4), (Finset.univ.filter fun u : Fin 256 => among (BitVec.ofNat 32 (4 * d.val)) (IX (ix2 ⟨256 * q.val + u.val, by omega⟩ 0)) = 1#1).card ≤ 96)
      ∧ ∀ n : Fin 1024, top (fun e => ∑ a : Fin 512, X (ix2 n a) * RW (ix2 a e)) ≠ ⊥ ∧ top (fun e => ∑ a : Fin 512, X (ix2 n a) * RW (ix2 a e)) ≠ ⊤)
    (c : Dev Cert.KernelIdeal.nD) (t : Fin 256) (h : Fin 1024) :
    Cert.KernelIdeal.Run.outAt m c (ix2 t h)
      = Cert.ReferenceIdeal.Value.result X RW IX EW SW (ix2 (Cert.KernelIdeal.Value.tok c.val c.isLt t) h) := by
  obtain ⟨hi, hc, ht⟩ := hr
  let E : Fin 1024 → Fin 16 := fun n => ⟨(IX (ix2 n 0)).toInt.toNat, by have := hi n; omega⟩
  have hE : ∀ n, IX (ix2 n 0) = BitVec.ofNat 32 (E n).val := by
    intro n
    apply BitVec.eq_of_toInt_eq
    rw [toInt_small _ (by have := (E n).isLt; omega)]
    show _ = (((IX (ix2 n 0)).toInt.toNat : ℕ) : ℤ)
    have := hi n
    omega
  have hcap : ∀ (q : ℕ) (hq : q < 4) (d : ℕ), d < 4 → (Finset.univ.filter fun u : Fin 256 => (E (Cert.KernelIdeal.Value.tok q hq u)).val / 4 = d).card ≤ 96 := by
    intro q hq d hd
    refine le_trans (le_of_eq (congrArg Finset.card (Finset.filter_congr fun u _ => ?_))) (hc ⟨q, hq⟩ ⟨d, hd⟩)
    rw [hE]
    exact (among_iff d _ hd (E _).isLt).symm
  rw [Cert.KernelIdeal.Value.outAt_at m X RW IX E EW SW hE hcap (fun n => (ht n).1) (fun n => (ht n).2) c h0 h1 h2 h3 h4 t h]
  exact (Cert.ReferenceIdeal.Value.result_at X RW IX EW SW _ h (E _) (hE _)).symm

/-- On exact arithmetic, for inputs that meet `routed`, each device ends with its 256 rows of the reference's result. -/
theorem values : @Cert.algebraic_KernelIdeal_ReferenceIdeal_pre_routed_KernelIdeal Cert.KernelIdeal.Gen.facts Cert.ReferenceIdeal.Gen.facts
    Cert.Pre_routed_KernelIdeal.facts := by
  intro m ρ m' ρ' hpre hag
  let X := m' (((0 : Dev Cert.ReferenceIdeal.nD).tc : Thread _ Cert.ReferenceIdeal.τ).loc Cert.ReferenceIdeal.main_arg0)
  let RW := m' (((0 : Dev Cert.ReferenceIdeal.nD).tc : Thread _ Cert.ReferenceIdeal.τ).loc Cert.ReferenceIdeal.main_arg1)
  let IX := m' (((0 : Dev Cert.ReferenceIdeal.nD).tc : Thread _ Cert.ReferenceIdeal.τ).loc Cert.ReferenceIdeal.main_arg2)
  let EW := m' (((0 : Dev Cert.ReferenceIdeal.nD).tc : Thread _ Cert.ReferenceIdeal.τ).loc Cert.ReferenceIdeal.main_arg3)
  let SW := m' (((0 : Dev Cert.ReferenceIdeal.nD).tc : Thread _ Cert.ReferenceIdeal.τ).loc Cert.ReferenceIdeal.main_arg4)
  refine ⟨Cert.ReferenceIdeal.Value.result X RW IX EW SW, ?_, ?_⟩
  · refine (θ_run Cert.KernelIdeal.defs _ _).mono (fun r h c => ⟨?_, args_kernelIdeal m ρ r h.1 c⟩) (Cert.KernelIdeal.Run.run_main (F := Ideal) m ρ)
    refine (h.1 c 5).trans ((Cert.KernelIdeal.Run.finalA_out m ρ c).trans ?_)
    have hr := @Cert.Pre_routed_KernelIdeal.routed_reads Cert.Pre_routed_KernelIdeal.facts _ _ _ _ _ (hpre 0)
    rw [(hag 0).1, (hag 0).2.1, (hag 0).2.2.1] at hr
    funext i
    obtain ⟨t, h, rfl⟩ : ∃ (t : Fin 256) (h : Fin 1024), i = ix2 t h := ⟨i 0, i 1, funext fun a => by fin_cases a <;> rfl⟩
    refine (rows_of m X RW IX EW SW (fun s => (hag s).1) (fun s => (hag s).2.1) (fun s => (hag s).2.2.1) (fun s j a h => ?_)
      (fun s => (hag s).2.2.2.2) hr c t h).trans ?_
    · rw [(hag s).2.2.2.1]
      refine congrArg EW (funext fun b => Fin.ext ?_)
      match b with
      | ⟨0, _⟩ => show s.val * 4 + j.val = 4 * s.val + j.val; omega
      | ⟨1, _⟩ => rfl
      | ⟨2, _⟩ => rfl
    · refine congrArg (Cert.ReferenceIdeal.Value.result X RW IX EW SW) (funext fun b => Fin.ext ?_)
      match b with
      | ⟨0, _⟩ => show 256 * c.val + t.val = c.val * 256 + t.val; omega
      | ⟨1, _⟩ => rfl
  · exact (θ_run Cert.ReferenceIdeal.defs _ _).mono (fun r h => h 0) (Cert.ReferenceIdeal.Value.run (F := Ideal) m' ρ')

/-- All the claims together. -/
theorem claim : Cert.Claim :=
  ⟨Cert.Kernel.Gen.facts, Cert.KernelIdeal.Gen.facts, Cert.ReferenceIdeal.Gen.facts, Cert.Pre_routed_KernelIdeal.facts, Cert.Pre_routed_ReferenceIdeal.facts,
    frame_kernel, frame_kernelIdeal, fun m ρ _ => frame_kernelIdeal m ρ trivial, frame_referenceIdeal, fun m ρ _ => frame_referenceIdeal m ρ trivial,
    trivial, values⟩

end Cert.Proof

end
